-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S2x2048x3 : Shape := ⟨3, ![2, 2048, 3]⟩
abbrev S2x50x50 : Shape := ⟨3, ![2, 50, 50]⟩
abbrev S_ : Shape := ⟨0, ![]⟩
abbrev S2x2048 : Shape := ⟨2, ![2, 2048]⟩
abbrev S2x2048x1 : Shape := ⟨3, ![2, 2048, 1]⟩
abbrev S2x2048x2 : Shape := ⟨3, ![2, 2048, 2]⟩
abbrev S2x1x2048x2 : Shape := ⟨4, ![2, 1, 2048, 2]⟩
abbrev S64 : Shape := ⟨1, ![64]⟩
abbrev S128 : Shape := ⟨1, ![128]⟩
abbrev S64x128 : Shape := ⟨2, ![64, 128]⟩
abbrev S8192 : Shape := ⟨1, ![8192]⟩
abbrev S8192x1 : Shape := ⟨2, ![8192, 1]⟩
abbrev S8192x2 : Shape := ⟨2, ![8192, 2]⟩
abbrev S1x8192x1x2 : Shape := ⟨4, ![1, 8192, 1, 2]⟩
abbrev S2x8192x2048x2 : Shape := ⟨4, ![2, 8192, 2048, 2]⟩
abbrev S2x8192x2048 : Shape := ⟨3, ![2, 8192, 2048]⟩
abbrev S2x8192x4 : Shape := ⟨3, ![2, 8192, 4]⟩
abbrev S2x8192x3 : Shape := ⟨3, ![2, 8192, 3]⟩

class Facts : Prop where
  reducesTo_S2x2048x3_S2x2048_d2 : S2x2048x3.ReducesTo [2] S2x2048
  h_S_ : 0 < S_.numel
  bcast_S2x2048_S2x2048x1_0_1 : S2x2048.BroadcastsInDim S2x2048x1 (![0, 1] : Fin 2 → Fin S2x2048x1.rank)
  slices_S2x2048x3_S2x2048x1_0_0_1 : S2x2048x3.Slices ![0, 0, 1] S2x2048x1
  slices_S2x2048x3_S2x2048x1_0_0_0 : S2x2048x3.Slices ![0, 0, 0] S2x2048x1
  slices_S2x2048x3_S2x2048x1_0_0_2 : S2x2048x3.Slices ![0, 0, 2] S2x2048x1
  shapeCasts_S2x2048x1_S2x2048 : S2x2048x1.ShapeCasts S2x2048
  bcast_S_S2x2048x1 : S_.BroadcastsInDim S2x2048x1 (![] : Fin 0 → Fin S2x2048x1.rank)
  concatenates_S2x2048x1_S2x2048x1_S2x2048x2_d2 : Shape.Concatenates [S2x2048x1, S2x2048x1] S2x2048x2 2
  bcast_S2x2048x2_S2x1x2048x2_0_2_3 : S2x2048x2.BroadcastsInDim S2x1x2048x2 (![0, 2, 3] : Fin 3 → Fin S2x1x2048x2.rank)
  bcast_S_S128 : S_.BroadcastsInDim S128 (![] : Fin 0 → Fin S128.rank)
  bcast_S64_S64x128_0 : S64.BroadcastsInDim S64x128 (![0] : Fin 1 → Fin S64x128.rank)
  bcast_S128_S64x128_1 : S128.BroadcastsInDim S64x128 (![1] : Fin 1 → Fin S64x128.rank)
  shapeCasts_S64x128_S8192 : S64x128.ShapeCasts S8192
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S_S8192x2 : S_.BroadcastsInDim S8192x2 (![] : Fin 0 → Fin S8192x2.rank)
  bcast_S8192x2_S1x8192x1x2_1_3 : S8192x2.BroadcastsInDim S1x8192x1x2 (![1, 3] : Fin 2 → Fin S1x8192x1x2.rank)
  bcast_S2x1x2048x2_S2x8192x2048x2_0_1_2_3 : S2x1x2048x2.BroadcastsInDim S2x8192x2048x2 (![0, 1, 2, 3] : Fin 4 → Fin S2x8192x2048x2.rank)
  bcast_S1x8192x1x2_S2x8192x2048x2_0_1_2_3 : S1x8192x1x2.BroadcastsInDim S2x8192x2048x2 (![0, 1, 2, 3] : Fin 4 → Fin S2x8192x2048x2.rank)
  reducesTo_S2x8192x2048x2_S2x8192x2048_d3 : S2x8192x2048x2.ReducesTo [3] S2x8192x2048
  sliceFits_S2x8192x2048_S2x8192x4 : S2x8192x2048.Slices (fun _ => 0) S2x8192x4
  bcast_S_S2x2048x3 : S_.BroadcastsInDim S2x2048x3 (![] : Fin 0 → Fin S2x2048x3.rank)
  reducesTo_S2x2048x3_S_d0_1_2 : S2x2048x3.ReducesTo [0, 1, 2] S_
  bcast_S_S2x2048 : S_.BroadcastsInDim S2x2048 (![] : Fin 0 → Fin S2x2048.rank)
  reducesTo_S2x2048_S_d0_1 : S2x2048.ReducesTo [0, 1] S_
  slices_S2x8192x4_S2x8192x3_0_0_0 : S2x8192x4.Slices ![0, 0, 0] S2x8192x3
  slices_S2x8192x4_S2x8192x3_0_0_1 : S2x8192x4.Slices ![0, 0, 1] S2x8192x3
  reducesTo_S2x8192x3_S_d0_1_2 : S2x8192x3.ReducesTo [0, 1, 2] S_

variable [Facts]

def fn_norm {F : FTy → Type} [FloatOps F] (arg0 : FVec F S2x2048x3 .f32) : FVec F S2x2048x1 .f32 :=
  let v0 : FVec F S2x2048x3 .f32 := mulf arg0 arg0
  let cst : FVec F S_ .f32 := constant S_ .f32 0x00000000#32
  let v1 : FVec F S2x2048 .f32 := (fun x v => Host.reduceAdd x v reducesTo_S2x2048x3_S2x2048_d2 h_S_) v0 cst
  let v2 : FVec F S2x2048x1 .f32 := broadcastInDim S2x2048x1 ![0, 1] bcast_S2x2048_S2x2048x1_0_1 v1
  let v3 : FVec F S2x2048x1 .f32 := Host.sqrt v2
  v3

def fn_part2 {F : FTy → Type} [FloatOps F] (main_arg0 : FVec F S2x2048x3 .f32) (main_values : FVec F S2x8192x4 .f32) (main_v38 : IVec S_ 1) : IVec S_ 1 :=
  let main_v39 : FVec F S2x2048x3 .f32 := mulf main_arg0 main_arg0
  let main_cst_5 : FVec F S_ .f32 := constant S_ .f32 0x00000000#32
  let main_v40 : FVec F S2x2048 .f32 := (fun x v => Host.reduceAdd x v reducesTo_S2x2048x3_S2x2048_d2 h_S_) main_v39 main_cst_5
  let main_cst_6 : FVec F S_ .f32 := constant S_ .f32 0x00000000#32
  let main_v41 : FVec F S2x2048 .f32 := broadcastInDim S2x2048 ![] bcast_S_S2x2048 main_cst_6
  let main_v42 : IVec S2x2048 1 := cmpf .ogt main_v40 main_v41
  let main_c_7 : IVec S_ 1 := constantI S_ 1 1#1
  let main_v43 : IVec S_ 1 := (fun x v => Host.reduce IntOp.andi x v reducesTo_S2x2048_S_d0_1 h_S_) main_v42 main_c_7
  let main_v44 : IVec S_ 1 := andi main_v38 main_v43
  let main_v45 : FVec F S2x8192x3 .f32 := (extractStridedSlice S2x8192x3 ![0, 0, 0] · slices_S2x8192x4_S2x8192x3_0_0_0) main_values
  let main_v46 : FVec F S2x8192x3 .f32 := (extractStridedSlice S2x8192x3 ![0, 0, 1] · slices_S2x8192x4_S2x8192x3_0_0_1) main_values
  let main_v47 : IVec S2x8192x3 1 := cmpf .ogt main_v45 main_v46
  let main_c_8 : IVec S_ 1 := constantI S_ 1 1#1
  let main_v48 : IVec S_ 1 := (fun x v => Host.reduce IntOp.andi x v reducesTo_S2x8192x3_S_d0_1_2 h_S_) main_v47 main_c_8
  let main_v49 : IVec S_ 1 := andi main_v44 main_v48
  main_v49

def fn_part1 {F : FTy → Type} [FloatOps F] (main_arg0 : FVec F S2x2048x3 .f32) (main_v11 : FVec F S2x1x2048x2 .f32) (main_v20 : IVec S8192x1 32) (main_v21 : IVec S8192x1 32) : IVec S_ 1 :=
  let main_v22 : IVec S8192x2 32 := (fun a b => concatenate S8192x2 1 [⟨S8192x1, a⟩, ⟨S8192x1, b⟩] concatenates_S8192x1_S8192x1_S8192x2_d1) main_v20 main_v21
  let main_v23 : FVec F S8192x2 .f32 := sitofp .f32 main_v22
  let main_cst_0 : FVec F S_ .f32 := constant S_ .f32 0x42800000#32
  let main_v24 : FVec F S8192x2 .f32 := broadcastInDim S8192x2 ![] bcast_S_S8192x2 main_cst_0
  let main_v25 : FVec F S8192x2 .f32 := Host.divf main_v23 main_v24
  let main_cst_1 : FVec F S_ .f32 := constant S_ .f32 0x40490FDB#32
  let main_v26 : FVec F S8192x2 .f32 := broadcastInDim S8192x2 ![] bcast_S_S8192x2 main_cst_1
  let main_v27 : FVec F S8192x2 .f32 := mulf main_v25 main_v26
  let main_v28 : FVec F S1x8192x1x2 .f32 := broadcastInDim S1x8192x1x2 ![1, 3] bcast_S8192x2_S1x8192x1x2_1_3 main_v27
  let main_v29 : FVec F S2x8192x2048x2 .f32 := broadcastInDim S2x8192x2048x2 ![0, 1, 2, 3] bcast_S2x1x2048x2_S2x8192x2048x2_0_1_2_3 main_v11
  let main_v30 : FVec F S2x8192x2048x2 .f32 := broadcastInDim S2x8192x2048x2 ![0, 1, 2, 3] bcast_S1x8192x1x2_S2x8192x2048x2_0_1_2_3 main_v28
  let main_v31 : FVec F S2x8192x2048x2 .f32 := subf main_v29 main_v30
  let main_v32 : FVec F S2x8192x2048x2 .f32 := mulf main_v31 main_v31
  let main_cst_2 : FVec F S_ .f32 := constant S_ .f32 0x00000000#32
  let main_v33 : FVec F S2x8192x2048 .f32 := (fun x v => Host.reduceAdd x v reducesTo_S2x8192x2048x2_S2x8192x2048_d3 h_S_) main_v32 main_cst_2
  let main_v34 : FVec F S2x8192x2048 .f32 := Host.negf main_v33
  let main_values : FVec F S2x8192x4 .f32 := (fun x => (Host.topK S2x8192x4 2 (FloatOps.cmpfTotal .gt) x sliceFits_S2x8192x2048_S2x8192x4).1) main_v34
  let main_indices : IVec S2x8192x4 32 := (fun x => (Host.topK S2x8192x4 2 (FloatOps.cmpfTotal .gt) x sliceFits_S2x8192x2048_S2x8192x4).2) main_v34
  let main_v35 : FVec F S2x2048x3 .f32 := Host.absf main_arg0
  let main_cst_3 : FVec F S_ .f32 := constant S_ .f32 0x7F800000#32
  let main_v36 : FVec F S2x2048x3 .f32 := broadcastInDim S2x2048x3 ![] bcast_S_S2x2048x3 main_cst_3
  let main_v37 : IVec S2x2048x3 1 := cmpf .olt main_v35 main_v36
  let main_c_4 : IVec S_ 1 := constantI S_ 1 1#1
  let main_v38 : IVec S_ 1 := (fun x v => Host.reduce IntOp.andi x v reducesTo_S2x2048x3_S_d0_1_2 h_S_) main_v37 main_c_4
  fn_part2 (F := F) main_arg0 main_values main_v38

def fn {F : FTy → Type} [FloatOps F] (main_arg0 : FVec F S2x2048x3 .f32) (main_arg1 : FVec F S2x50x50 .f32) : IVec S_ 1 :=
  let main_v0 : FVec F S2x2048x1 .f32 := fn_norm (F := F) main_arg0
  let main_v1 : FVec F S2x2048x1 .f32 := (extractStridedSlice S2x2048x1 ![0, 0, 1] · slices_S2x2048x3_S2x2048x1_0_0_1) main_arg0
  let main_v2 : FVec F S2x2048x1 .f32 := (extractStridedSlice S2x2048x1 ![0, 0, 0] · slices_S2x2048x3_S2x2048x1_0_0_0) main_arg0
  let main_v3 : FVec F S2x2048x1 .f32 := Host.atan2 main_v1 main_v2
  let main_v4 : FVec F S2x2048x1 .f32 := (extractStridedSlice S2x2048x1 ![0, 0, 2] · slices_S2x2048x3_S2x2048x1_0_0_2) main_arg0
  let main_v5 : FVec F S2x2048x1 .f32 := Host.divf main_v4 main_v0
  let main_v6 : FVec F S2x2048x1 .f32 := Host.acos main_v5
  let main_v7 : FVec F S2x2048 .f32 := shapeCast S2x2048 main_v0 shapeCasts_S2x2048x1_S2x2048
  let main_cst : FVec F S_ .f32 := constant S_ .f32 0x40490FDB#32
  let main_v8 : FVec F S2x2048x1 .f32 := broadcastInDim S2x2048x1 ![] bcast_S_S2x2048x1 main_cst
  let main_v9 : FVec F S2x2048x1 .f32 := subf main_v6 main_v8
  let main_v10 : FVec F S2x2048x2 .f32 := (fun a b => concatenate S2x2048x2 2 [⟨S2x2048x1, a⟩, ⟨S2x2048x1, b⟩] concatenates_S2x2048x1_S2x2048x1_S2x2048x2_d2) main_v3 main_v9
  let main_v11 : FVec F S2x1x2048x2 .f32 := broadcastInDim S2x1x2048x2 ![0, 2, 3] bcast_S2x2048x2_S2x1x2048x2_0_2_3 main_v10
  let main_v12 : IVec S64 32 := iotaInDim S64 32 0
  let main_v13 : IVec S128 32 := iotaInDim S128 32 0
  let main_c : IVec S_ 32 := constantI S_ 32 4294967232#32
  let main_v14 : IVec S128 32 := broadcastInDim S128 ![] bcast_S_S128 main_c
  let main_v15 : IVec S128 32 := addi main_v14 main_v13
  let main_v16 : IVec S64x128 32 := broadcastInDim S64x128 ![0] bcast_S64_S64x128_0 main_v12
  let main_v17 : IVec S64x128 32 := broadcastInDim S64x128 ![1] bcast_S128_S64x128_1 main_v15
  let main_v18 : IVec S8192 32 := shapeCast S8192 main_v16 shapeCasts_S64x128_S8192
  let main_v19 : IVec S8192 32 := shapeCast S8192 main_v17 shapeCasts_S64x128_S8192
  let main_v20 : IVec S8192x1 32 := broadcastInDim S8192x1 ![0] bcast_S8192_S8192x1_0 main_v18
  let main_v21 : IVec S8192x1 32 := broadcastInDim S8192x1 ![0] bcast_S8192_S8192x1_0 main_v19
  fn_part1 (F := F) main_arg0 main_v11 main_v20 main_v21
-- ==== Kernel.lean ====
abbrev S2x2048x3 : Shape := ⟨3, ![2, 2048, 3]⟩
abbrev S2x50x50 : Shape := ⟨3, ![2, 50, 50]⟩
abbrev S50x128 : Shape := ⟨2, ![50, 128]⟩
abbrev S50x50x64 : Shape := ⟨3, ![50, 50, 64]⟩
abbrev S50x1 : Shape := ⟨2, ![50, 1]⟩
abbrev S2x3x2048 : Shape := ⟨3, ![2, 3, 2048]⟩
abbrev S1x3x2048 : Shape := ⟨3, ![1, 3, 2048]⟩
abbrev S1x1x2048 : Shape := ⟨3, ![1, 1, 2048]⟩
abbrev S1x2048 : Shape := ⟨2, ![1, 2048]⟩
abbrev S2x32x1x256 : Shape := ⟨4, ![2, 32, 1, 256]⟩
abbrev S1x2048x3 : Shape := ⟨3, ![1, 2048, 3]⟩
abbrev S1x1x1x256 : Shape := ⟨4, ![1, 1, 1, 256]⟩
abbrev S1x2048x1 : Shape := ⟨3, ![1, 2048, 1]⟩
abbrev S2048x1 : Shape := ⟨2, ![2048, 1]⟩
abbrev S1x256 : Shape := ⟨2, ![1, 256]⟩
abbrev S2048x256 : Shape := ⟨2, ![2048, 256]⟩
abbrev S256 : Shape := ⟨1, ![256]⟩
abbrev S2x64x128 : Shape := ⟨3, ![2, 64, 128]⟩
abbrev S1x1 : Shape := ⟨2, ![1, 1]⟩
abbrev S1x64x128 : Shape := ⟨3, ![1, 64, 128]⟩
abbrev S64x128 : Shape := ⟨2, ![64, 128]⟩
abbrev S50x64 : Shape := ⟨2, ![50, 64]⟩
abbrev S1x50x64 : Shape := ⟨3, ![1, 50, 64]⟩
abbrev S50x50 : Shape := ⟨2, ![50, 50]⟩
abbrev S1x50x50 : Shape := ⟨3, ![1, 50, 50]⟩
abbrev S1 : Shape := ⟨1, ![1]⟩
abbrev S1x1x1 : Shape := ⟨3, ![1, 1, 1]⟩
abbrev S_ : Shape := ⟨0, ![]⟩

abbrev nBuf : Space → Nat
  | .hbm => 12
  | .vmem => 14
  | .smem => 0
  | _ => 0

abbrev bufTy : (tb : Table) → Fin (tcTables nBuf tb) → BufTy
  | .hbm, ⟨0, _⟩ => ⟨S2x2048x3, .f32⟩
  | .hbm, ⟨1, _⟩ => ⟨S2x50x50, .f32⟩
  | .hbm, ⟨2, _⟩ => ⟨S50x128, .f32⟩
  | .hbm, ⟨3, _⟩ => ⟨S50x50x64, .f32⟩
  | .hbm, ⟨4, _⟩ => ⟨S50x1, .f32⟩
  | .hbm, ⟨5, _⟩ => ⟨S2x3x2048, .f32⟩
  | .hbm, ⟨6, _⟩ => ⟨S2x3x2048, .f32⟩
  | .hbm, ⟨7, _⟩ => ⟨S2x2048x3, .f32⟩
  | .hbm, ⟨8, _⟩ => ⟨S2x32x1x256, .f32⟩
  | .hbm, ⟨9, _⟩ => ⟨S2x64x128, .f32⟩
  | .hbm, ⟨10, _⟩ => ⟨S1x1, .f32⟩
  | .hbm, ⟨11, _⟩ => ⟨S_, .f32⟩
  | .local _ .vmem, ⟨0, _⟩ => ⟨S1x3x2048, .f32⟩
  | .local _ .vmem, ⟨1, _⟩ => ⟨S1x3x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048x3, .f32⟩
  | .local _ .vmem, ⟨5, _⟩ => ⟨S1x2048x3, .f32⟩
  | .local _ .vmem, ⟨6, _⟩ => ⟨S1x1x1x256, .f32⟩
  | .local _ .vmem, ⟨7, _⟩ => ⟨S1x1x1x256, .f32⟩
  | .local _ .vmem, ⟨8, _⟩ => ⟨S2x64x128, .f32⟩
  | .local _ .vmem, ⟨9, _⟩ => ⟨S2x50x50, .f32⟩
  | .local _ .vmem, ⟨10, _⟩ => ⟨S50x128, .f32⟩
  | .local _ .vmem, ⟨11, _⟩ => ⟨S50x50x64, .f32⟩
  | .local _ .vmem, ⟨12, _⟩ => ⟨S50x1, .f32⟩
  | .local _ .vmem, ⟨13, _⟩ => ⟨S1x1, .f32⟩
  | _, _ => ⟨S2x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x2048x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := .none

abbrev stage2_0 : Fin 1 → Memref sig .tc .vmem S2x64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2x50x50 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S50x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S50x50x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S50x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
-- ==== ReferenceIdeal.lean ====
abbrev S2x2048x3 : Shape := ⟨3, ![2, 2048, 3]⟩
abbrev S2x50x50 : Shape := ⟨3, ![2, 50, 50]⟩
abbrev S50x128 : Shape := ⟨2, ![50, 128]⟩
abbrev S4x4x64 : Shape := ⟨3, ![4, 4, 64]⟩
abbrev S46x50x64 : Shape := ⟨3, ![46, 50, 64]⟩
abbrev S50 : Shape := ⟨1, ![50]⟩
abbrev S1x50x1 : Shape := ⟨3, ![1, 50, 1]⟩
abbrev S_ : Shape := ⟨0, ![]⟩
abbrev S2x2048 : Shape := ⟨2, ![2, 2048]⟩
abbrev S2x2048x1 : Shape := ⟨3, ![2, 2048, 1]⟩
abbrev S2x2048x2 : Shape := ⟨3, ![2, 2048, 2]⟩
abbrev S64 : Shape := ⟨1, ![64]⟩
abbrev S128 : Shape := ⟨1, ![128]⟩
abbrev S64x128 : Shape := ⟨2, ![64, 128]⟩
abbrev S8192 : Shape := ⟨1, ![8192]⟩
abbrev S8192x1 : Shape := ⟨2, ![8192, 1]⟩
abbrev S8192x2 : Shape := ⟨2, ![8192, 2]⟩
abbrev S1x8192x1 : Shape := ⟨3, ![1, 8192, 1]⟩
abbrev S2x1x2048 : Shape := ⟨3, ![2, 1, 2048]⟩
abbrev S2x8192x2048 : Shape := ⟨3, ![2, 8192, 2048]⟩
abbrev S2x2048x8192 : Shape := ⟨3, ![2, 2048, 8192]⟩
abbrev S2x8192x3 : Shape := ⟨3, ![2, 8192, 3]⟩
abbrev S2x8192x3x1 : Shape := ⟨4, ![2, 8192, 3, 1]⟩
abbrev S2x8192x3x2 : Shape := ⟨4, ![2, 8192, 3, 2]⟩
abbrev S1x8192x1x2 : Shape := ⟨4, ![1, 8192, 1, 2]⟩
abbrev S2x8192 : Shape := ⟨2, ![2, 8192]⟩
abbrev S2x8192x1 : Shape := ⟨3, ![2, 8192, 1]⟩
abbrev S2x64x128 : Shape := ⟨3, ![2, 64, 128]⟩
abbrev S2x64x50 : Shape := ⟨3, ![2, 64, 50]⟩
abbrev S4x46x64 : Shape := ⟨3, ![4, 46, 64]⟩
abbrev S4x50x64 : Shape := ⟨3, ![4, 50, 64]⟩
abbrev S50x50x64 : Shape := ⟨3, ![50, 50, 64]⟩
abbrev S50x2x50 : Shape := ⟨3, ![50, 2, 50]⟩
abbrev S2 : Shape := ⟨1, ![2]⟩

abbrev nBuf : Space → Nat
  | .hbm => 113
  | .vmem => 0
  | .smem => 0
  | _ => 0

abbrev bufTy : (tb : Table) → Fin (tcTables nBuf tb) → BufTy
  | .hbm, ⟨0, _⟩ => ⟨S2x2048x3, .f32⟩
  | .hbm, ⟨1, _⟩ => ⟨S2x50x50, .f32⟩
  | .hbm, ⟨2, _⟩ => ⟨S50x128, .f32⟩
  | .hbm, ⟨3, _⟩ => ⟨S4x4x64, .f32⟩
  | .hbm, ⟨4, _⟩ => ⟨S46x50x64, .f32⟩
  | .hbm, ⟨5, _⟩ => ⟨S50, .f32⟩
  | .hbm, ⟨6, _⟩ => ⟨S1x50x1, .f32⟩
  | .hbm, ⟨7, _⟩ => ⟨S2x2048x3, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x2, .f32⟩
  | .hbm, ⟨23, _⟩ => ⟨S64, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S64x128, .i32⟩
  | .hbm, ⟨29, _⟩ => ⟨S64x128, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x1, .i32⟩
  | .hbm, ⟨34, _⟩ => ⟨S8192x2, .i32⟩
  | .hbm, ⟨35, _⟩ => ⟨S8192x2, .f32⟩
  | .hbm, ⟨36, _⟩ => ⟨S_, .f32⟩
  | .hbm, ⟨37, _⟩ => ⟨S8192x2, .f32⟩
  | .hbm, ⟨38, _⟩ => ⟨S8192x2, .f32⟩
  | .hbm, ⟨39, _⟩ => ⟨S_, .f32⟩
  | .hbm, ⟨40, _⟩ => ⟨S8192x2, .f32⟩
  | .hbm, ⟨41, _⟩ => ⟨S8192x2, .f32⟩
  | .hbm, ⟨42, _⟩ => ⟨S8192x2, .f32⟩
  | .hbm, ⟨43, _⟩ => ⟨S_, .f32⟩
  | .hbm, ⟨44, _⟩ => ⟨S8192, .f32⟩
  | .hbm, ⟨45, _⟩ => ⟨S1x8192x1, .f32⟩
  | .hbm, ⟨46, _⟩ => ⟨S2x2048x2, .f32⟩
  | .hbm, ⟨47, _⟩ => ⟨S_, .f32⟩
  | .hbm, ⟨48, _⟩ => ⟨S2x2048, .f32⟩
  | .hbm, ⟨49, _⟩ => ⟨S2x1x2048, .f32⟩
  | .hbm, ⟨50, _⟩ => ⟨S2x8192x2048, .f32⟩
  | .hbm, ⟨51, _⟩ => ⟨S2x8192x2048, .f32⟩
  | .hbm, ⟨52, _⟩ => ⟨S2x8192x2048, .f32⟩
  | .hbm, ⟨53, _⟩ => ⟨S2x2048x8192, .f32⟩
  | .hbm, ⟨54, _⟩ => ⟨S2x8192x2048, .f32⟩
  | .hbm, ⟨55, _⟩ => ⟨S_, .f32⟩
  | .hbm, ⟨56, _⟩ => ⟨S2x8192x2048, .f32⟩
  | .hbm, ⟨57, _⟩ => ⟨S2x8192x2048, .f32⟩
  | .hbm, ⟨58, _⟩ => ⟨S2x8192x2048, .f32⟩
  | .hbm, ⟨59, _⟩ => ⟨S2x8192x2048, .f32⟩
  | .hbm, ⟨60, _⟩ => ⟨S2x8192x3, .f32⟩
  | .hbm, ⟨61, _⟩ => ⟨S2x8192x3, .i32⟩
  | .hbm, ⟨62, _⟩ => ⟨S_, .i32⟩
  | .hbm, ⟨63, _⟩ => ⟨S2x8192x3, .i32⟩
  | .hbm, ⟨64, _⟩ => ⟨S2x8192x3, .i1⟩
  | .hbm, ⟨65, _⟩ => ⟨S_, .i32⟩
  | .hbm, ⟨66, _⟩ => ⟨S2x8192x3, .i32⟩
  | .hbm, ⟨67, _⟩ => ⟨S2x8192x3, .i32⟩
  | .hbm, ⟨68, _⟩ => ⟨S2x8192x3, .i32⟩
  | .hbm, ⟨69, _⟩ => ⟨S2x8192x3x1, .i32⟩
  | .hbm, ⟨70, _⟩ => ⟨S2x8192x3x2, .f32⟩
  | .hbm, ⟨71, _⟩ => ⟨S1x8192x1x2, .f32⟩
  | .hbm, ⟨72, _⟩ => ⟨S2x8192x3x2, .f32⟩
  | .hbm, ⟨73, _⟩ => ⟨S2x8192x3x2, .f32⟩
  | .hbm, ⟨74, _⟩ => ⟨S2x8192x3x2, .f32⟩
  | .hbm, ⟨75, _⟩ => ⟨S_, .f32⟩
  | .hbm, ⟨76, _⟩ => ⟨S2x8192x3, .f32⟩
  | .hbm, ⟨77, _⟩ => ⟨S2x8192x3, .f32⟩
  | .hbm, ⟨78, _⟩ => ⟨S_, .f32⟩
  | .hbm, ⟨79, _⟩ => ⟨S2x8192, .f32⟩
  | .hbm, ⟨80, _⟩ => ⟨S2x8192x1, .f32⟩
  | .hbm, ⟨81, _⟩ => ⟨S2x8192x3, .f32⟩
  | .hbm, ⟨82, _⟩ => ⟨S2x8192x3, .f32⟩
  | .hbm, ⟨83, _⟩ => ⟨S_, .i32⟩
  | .hbm, ⟨84, _⟩ => ⟨S2x8192x3, .i32⟩
  | .hbm, ⟨85, _⟩ => ⟨S2x8192x3, .i1⟩
  | .hbm, ⟨86, _⟩ => ⟨S_, .i32⟩
  | .hbm, ⟨87, _⟩ => ⟨S2x8192x3, .i32⟩
  | .hbm, ⟨88, _⟩ => ⟨S2x8192x3, .i32⟩
  | .hbm, ⟨89, _⟩ => ⟨S2x8192x3, .i32⟩
  | .hbm, ⟨90, _⟩ => ⟨S2x8192x3x1, .i32⟩
  | .hbm, ⟨91, _⟩ => ⟨S2x8192x3, .f32⟩
  | .hbm, ⟨92, _⟩ => ⟨S2x8192x3, .f32⟩
  | .hbm, ⟨93, _⟩ => ⟨S_, .f32⟩
  | .hbm, ⟨94, _⟩ => ⟨S2x8192, .f32⟩
  | .hbm, ⟨95, _⟩ => ⟨S2x64x128, .f32⟩
  | .hbm, ⟨96, _⟩ => ⟨S2x64x50, .f32⟩
  | .hbm, ⟨97, _⟩ => ⟨S_, .f32⟩
  | .hbm, ⟨98, _⟩ => ⟨S4x46x64, .f32⟩
  | .hbm, ⟨99, _⟩ => ⟨S4x50x64, .f32⟩
  | .hbm, ⟨100, _⟩ => ⟨S50x50x64, .f32⟩
  | .hbm, ⟨101, _⟩ => ⟨S50x2x50, .f32⟩
  | .hbm, ⟨102, _⟩ => ⟨S2x50x50, .f32⟩
  | .hbm, ⟨103, _⟩ => ⟨S2x50x50, .f32⟩
  | .hbm, ⟨104, _⟩ => ⟨S2x50x50, .f32⟩
  | .hbm, ⟨105, _⟩ => ⟨S2x50x50, .f32⟩
  | .hbm, ⟨106, _⟩ => ⟨S2x50x50, .f32⟩
  | .hbm, ⟨107, _⟩ => ⟨S_, .f32⟩
  | .hbm, ⟨108, _⟩ => ⟨S2, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S2x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_v0 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_values : Ref sig .tc := ⟨.hbm, 60, rfl⟩
abbrev main_indices : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_cst_18 : Ref sig .tc := ⟨.hbm, 109, rfl⟩
abbrev main_v81 : Ref sig .tc := ⟨.hbm, 110, rfl⟩
abbrev main_cst_19 : Ref sig .tc := ⟨.hbm, 111, rfl⟩
abbrev main_v82 : Ref sig .tc := ⟨.hbm, 112, rfl⟩

abbrev nD : Nat := 1
abbrev τ : Topo := Topo.v7x

variable {F : FTy → Type} [FloatOps F]
-- ==== Proof.KernelRun.lean ====
/- The run of the idealized kernel program, with its result read: the result buffer ends at the contents which the
   fold over the program's segments (`Gen.W7`) gives it, and the two arguments end as launched. -/
module

public import proofs.«01_k».proof.Proof.Gen.KernelIdeal.Frame

@[expose] public section

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program terminates with the result buffer
    at the last boundary's contents and the arguments unchanged: the launch over the segments, the last thread state
    read against the final state. -/
theorem run : θ_run defs (onTc (τ := τ) (main (F := F))) ⟨m, fun _ => 0, ρ⟩ (fun r => ∀ c : Dev nD,
      r.2.mem ((c.tc : Thread nD τ).loc main_v6) = W7 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c =>
      ⟨h c _ (mem_uc main_v6 (by decide)),
       (h c _ (mem_uc main_arg0 (by decide))).trans (W7_main_arg0 m ρ c),
       (h c _ (mem_uc main_arg1 (by decide))).trans (W7_main_arg1 m ρ c)⟩)

end Cert.KernelIdeal.Result

end
-- ==== Proof.Model.lean ====
/- The mathematics of the kernel over the reals, on plain coordinates: no array, no layout. -/
module

public import Idealize.ShloMosaic.PureOps.Ideal
public import Idealize.ShloMosaic.PureOps.ShapeOps
public import Mathlib.Algebra.BigOperators.Fin

@[expose] public section

noncomputable section

namespace Cert.Sph

open Idealize.ShloMosaic

/-- The f32 nearest to pi, as both programs hold it. -/
def piF : EReal := Ideal.ofBits FTy.f32 1078530011#32

/-- The distance of a point from the origin. -/
def rho (x y z : EReal) : EReal := Ideal.sqrt (x * x + y * y + z * z)

/-- The longitude of a point. -/
def phi (x y : EReal) : EReal := Ideal.atan2 y x

/-- The kernel's colatitude from the cosine `u`, shifted by pi: the arc cosine through `atan2`. -/
def thetaOf (u : EReal) : EReal := Ideal.atan2 (Ideal.sqrt (max (1 - u * u) 0)) u - piF

/-- The kernel's colatitude of a point, shifted by pi. -/
def theta (x y z : EReal) : EReal := thetaOf (Ideal.div z (rho x y z))

/-- The three spherical coordinates of a point, by number: longitude, colatitude, distance. -/
def coord (k : ℕ) (x y z : EReal) : EReal :=
  if k = 0 then phi x y else if k = 1 then theta x y z else rho x y z

/-- The kernel's grid coordinate from an integer: the integer times 1/64 times pi. -/
def gridC (n : ℤ) : EReal := ((n : ℝ) : EReal) * Ideal.ofBits FTy.f32 1015021568#32 * piF

/-- The kernel's squared distance of a point at longitude `p` and colatitude `q` from grid point `(a, b)`. -/
def distK (p q : EReal) (a b : ℤ) : EReal :=
  (p - gridC a) * (p - gridC a) + (q - gridC b) * (q - gridC b)

/-- The least of a family of distances. -/
def least (d : Fin 2048 → EReal) : EReal := Finset.univ.fold min ⊤ d

/-- The sum of `r` over the points at distance `m`. -/
def sumAt (d r : Fin 2048 → EReal) (m : EReal) : EReal := ∑ k, if d k = m then r k else 0

/-- The distances with those equal to `m` made infinite. -/
def drop (d : Fin 2048 → EReal) (m : EReal) : Fin 2048 → EReal := fun k => if d k = m then ⊤ else d k

/-- The kernel's interpolated value at a grid point: three rounds of least distance, each weighing the points found. -/
def interp (d r : Fin 2048 → EReal) : EReal :=
  let m1 := least d
  let d2 := drop d m1
  let m2 := least d2
  let d3 := drop d2 m2
  let m3 := least d3
  Ideal.div (sumAt d r m1 * Ideal.sqrt m1 + sumAt d2 r m2 * Ideal.sqrt m2 + sumAt d3 r m3 * Ideal.sqrt m3)
    (Ideal.sqrt m1 + Ideal.sqrt m2 + Ideal.sqrt m3)

/-- The kernel's coefficient of degree `l` and order `m`: first the transform along the longitude, then along the
    colatitude. -/
def coeff (cs : Fin 50 → Fin 128 → EReal) (w : Fin 50 → Fin 50 → Fin 64 → EReal) (x : Fin 64 → Fin 128 → EReal)
    (l m : Fin 50) : EReal := ∑ t, w l m t * ∑ j, cs m j * x t j

/-- The weighed squared error of one batch's coefficients. -/
def sqErr (a tgt : Fin 50 → Fin 50 → EReal) (rect : Fin 50 → EReal) : EReal :=
  ∑ l, ∑ m, (a l m - tgt l m) * (a l m - tgt l m) * rect l

/-- The kernel's interpolated grid of one batch's points. -/
def kernelGrid (x : Fin 2048 → Fin 3 → EReal) (t : Fin 64) (j : Fin 128) : EReal :=
  interp (fun k => distK (phi (x k 0) (x k 1)) (theta (x k 0) (x k 1) (x k 2)) (t : ℕ) (((j : ℕ) : ℤ) - 64))
    fun k => rho (x k 0) (x k 1) (x k 2)

/-- The kernel's result from the points, the targets and the three tables. -/
def kernelLoss (cs : Fin 50 → Fin 128 → EReal) (w : Fin 50 → Fin 50 → Fin 64 → EReal) (rect : Fin 50 → EReal)
    (x : Fin 2 → Fin 2048 → Fin 3 → EReal) (tgt : Fin 2 → Fin 50 → Fin 50 → EReal) : EReal :=
  (sqErr (coeff cs w (kernelGrid (x 0))) (tgt 0) rect + sqErr (coeff cs w (kernelGrid (x 1))) (tgt 1) rect)
    * Ideal.ofBits FTy.f32 1056964608#32

/-- The reference's distance of a point from the origin. -/
def rhoR (p : Fin 3 → EReal) : EReal := Ideal.sqrt (∑ r, p r * p r)

/-- The reference's two angles of a point: the longitude, and the colatitude shifted by pi. -/
def angle (p : Fin 3 → EReal) (c : Fin 2) : EReal :=
  if (c : ℕ) < 1 then Ideal.atan2 (p 1) (p 0) else Ideal.acos (Ideal.div (p 2) (rhoR p)) - piF

/-- The reference's grid coordinate from an integer: the integer over 64 times pi. -/
def gridR (n : ℤ) : EReal := Ideal.div ((n : ℝ) : EReal) (Ideal.ofBits FTy.f32 1115684864#32) * piF

/-- The two coordinates of grid point number `g`. -/
def gridPt (g : Fin 8192) (c : Fin 2) : EReal :=
  if (c : ℕ) < 1 then gridR ((g : ℕ) / 128 : ℕ) else gridR (((((g : ℕ) % 128 : ℕ)) : ℤ) - 64)

/-- The reference's score of a point for a grid point: minus the squared distance, multiplied out. -/
def score (s p : Fin 2 → EReal) : EReal :=
  -(∑ c, p c * p c + ∑ c, s c * s c - Ideal.ofBits FTy.f32 1073741824#32 * ∑ c, s c * p c)

/-- The number of the point that comes at place `r` in the order of a family of scores, the greatest ahead. -/
def pick (v : Fin 2048 → EReal) (r : Fin 2048) : Fin 2048 :=
  sortedFrom (fun k k' => decide (v k' < v k)) r

/-- The plain distance between two points of the plane. -/
def dist2 (s p : Fin 2 → EReal) : EReal := Ideal.sqrt (∑ c, (s c - p c) * (s c - p c))

/-- The reference's interpolated value at a grid point from the numbers of three points. -/
def blend (x : Fin 2048 → Fin 3 → EReal) (p : Fin 2 → EReal) (i : Fin 3 → Fin 2048) : EReal :=
  ∑ r, rhoR (x (i r)) * Ideal.div (dist2 (angle (x (i r))) p) (∑ q, dist2 (angle (x (i q))) p)

/-- The reference's interpolated value at grid point `g`. -/
def refInterp (x : Fin 2048 → Fin 3 → EReal) (g : Fin 8192) : EReal :=
  blend x (gridPt g) fun r => pick (fun k => score (angle (x k)) (gridPt g)) ⟨(r : ℕ), by omega⟩

/-- The reference's interpolated grid. -/
def refGrid (x : Fin 2048 → Fin 3 → EReal) (t : Fin 64) (j : Fin 128) : EReal :=
  refInterp x ⟨(t : ℕ) * 128 + (j : ℕ), by omega⟩

/-- The reference's coefficient of degree `l` and order `m`. -/
def coeffR (cs : Fin 50 → Fin 128 → EReal) (w : Fin 50 → Fin 50 → Fin 64 → EReal) (x : Fin 64 → Fin 128 → EReal)
    (l m : Fin 50) : EReal := ∑ t, (∑ j, x t j * cs m j) * w l m t

/-- The reference's result from the points, the targets and the three tables. -/
def refLoss (cs : Fin 50 → Fin 128 → EReal) (w : Fin 50 → Fin 50 → Fin 64 → EReal) (rect : Fin 50 → EReal)
    (x : Fin 2 → Fin 2048 → Fin 3 → EReal) (tgt : Fin 2 → Fin 50 → Fin 50 → EReal) : EReal :=
  Ideal.div (∑ b, sqErr (coeffR cs w (refGrid (x b))) (tgt b) rect) (Ideal.ofBits FTy.f32 1073741824#32)

end Cert.Sph

end
-- ==== Proof.Region0.lean ====
/- The first launch of the kernel: Cartesian to spherical coordinates. -/
module

public import proofs.«01_k».proof.Proof.Gen.KernelIdeal.Frame
public import proofs.«01_k».proof.Proof.Model
public import Idealize.ShloMosaic.Lib.Pipeline.ValueKit
public import Idealize.ShloMosaic.Lib.Pointwise

@[expose] public section

set_option maxRecDepth 16384

noncomputable section

namespace Cert.KernelIdeal.Result

open Cert.KernelIdeal Cert.KernelIdeal.Gen
open Idealize.ShloMosaic Idealize.ShloMosaic.TcCoe

/-- The block that each grid point of the launch reads: its batch. -/
theorem idx0_0 : ∀ t : Fin grid0.N, (cfg0.win 0).index t = ![(grid0.coords t 0).val, 0, 0] := by decide +kernel
/-- The block that each grid point of the launch writes: its batch. -/
theorem idx0_1 : ∀ t : Fin grid0.N, (cfg0.win 1).index t = ![(grid0.coords t 0).val, 0, 0] := by decide +kernel

variable (V : (c : Dev nD) → (b : Ref sig .tc) → Buf (Elt Ideal) ((c : Thread nD τ).loc b))

/-- The array of spherical coordinates, one row each, of an array of points with one row per Cartesian coordinate. -/
def sphOf (x : S2x3x2048.Idx → EReal) : S2x3x2048.Idx → EReal := fun j =>
  Sph.coord (j 1 : ℕ) (x (ix3 (j 0) 0 (j 2))) (x (ix3 (j 0) 1 (j 2))) (x (ix3 (j 0) 2 (j 2)))

/-- What the first launch leaves: the spherical coordinates of its operand's points. -/
theorem region0 (c : Dev nD) : (dat0 V c).arrAt 1 cfg0.N = sphOf (V c main_v0) := by
  refine (dat0 V c).arrAt_eq_of_covers 1 _ (by decide +kernel) fun t hf y => ?_
  blk_simp
  rw [after0_1]
  frame_out
  canon_tiles x h
  all_goals
    have e : ∀ k : Fin 3, iblk0 V c 0 t (ix3 0 k (x 2))
        = V c main_v0 (ix3 (((View.whole main_v1).slice (win0_1.rect t)).emb y 0) k
          (((View.whole main_v1).slice (win0_1.rect t)).emb y 2)) := fun k => by
      blk_ext [iblk0, idx0_0 t, idx0_1 t]
    have h1' : ((((View.whole main_v1).slice (win0_1.rect t)).emb y 1 : Fin 3) : ℕ) = (y 1 : ℕ) := by
      blk_simp [idx0_1 t]
    pointwise [k0_pay7, k0_pay6, k0_pay5, k0_pay4, k0_pay3, k0_pay2, k0_pay1, sphOf]
    simp only [e]
    rw [h1', h1]
    simp [Sph.coord, Sph.rho, Sph.theta, Sph.thetaOf, Sph.phi, Sph.piF, show (x 1 : ℕ) = 0 by omega]

end Cert.KernelIdeal.Result
end
-- ==== Proof.Region1.lean ====
/- The second launch of the kernel: three-nearest interpolation on the grid. -/
module

public import proofs.«01_k».proof.Proof.Gen.KernelIdeal.Frame
public import proofs.«01_k».proof.Proof.Model
public import Idealize.ShloMosaic.Lib.Pipeline.ValueKit
public import Idealize.ShloMosaic.Lib.Pointwise

@[expose] public section

set_option maxRecDepth 16384

noncomputable section

namespace Cert.KernelIdeal.Result

open Cert.KernelIdeal Cert.KernelIdeal.Gen
open Idealize.ShloMosaic Idealize.ShloMosaic.TcCoe

/-- The block of the points' array that each grid point of the launch reads: its batch. -/
theorem idx1_0 : ∀ t : Fin grid1.N, (cfg1.win 0).index t = ![(grid1.coords t 0).val, 0, 0] := by decide +kernel
/-- The block of the output that each grid point of the launch writes: its batch and its tile. -/
theorem idx1_1 : ∀ t : Fin grid1.N, (cfg1.win 1).index t = ![(grid1.coords t 0).val, (grid1.coords t 1).val, 0, 0] := by
  decide +kernel

variable (V : (c : Dev nD) → (b : Ref sig .tc) → Buf (Elt Ideal) ((c : Thread nD τ).loc b))

/-- The squared distances of the points of batch `b` from grid point `g`, from the array of spherical coordinates. -/
def distOf (x : S2x2048x3.Idx → EReal) (b : Fin 2) (g : ℕ) : Fin 2048 → EReal := fun k =>
  Sph.distK (x (ix3 b k 0)) (x (ix3 b k 1)) ((g / 128 : ℕ) : ℤ) (((g % 128 : ℕ) : ℤ) - 64)

/-- The interpolated values, 256 grid points to a block, from the array of spherical coordinates. -/
def interpOf (x : S2x2048x3.Idx → EReal) : S2x32x1x256.Idx → EReal := fun j =>
  Sph.interp (distOf x (j 0) ((j 1 : ℕ) * 256 + (j 3 : ℕ))) fun k => x (ix3 (j 0) k 2)

/-- The row number of a lane's grid point, as the kernel finds it on words. -/
theorem word_row : ∀ (i : Fin 32) (l : Fin 256), (IntOp.shrsi ArithUnit.vector
    (IntOp.addi (BitVec.ofNat 32 (l : ℕ)) (Scalar.muli (BitVec.ofNat 32 (i : ℕ)) 256#32)) 7#32).toInt
      = ((((i : ℕ) * 256 + (l : ℕ)) / 128 : ℕ) : ℤ) := by decide +kernel

/-- The shifted column number of a lane's grid point, as the kernel finds it on words. -/
theorem word_col : ∀ (i : Fin 32) (l : Fin 256), (IntOp.subi (IntOp.andi
    (IntOp.addi (BitVec.ofNat 32 (l : ℕ)) (Scalar.muli (BitVec.ofNat 32 (i : ℕ)) 256#32)) 127#32) 64#32).toInt
      = ((((i : ℕ) * 256 + (l : ℕ)) % 128 : ℕ) : ℤ) - 64 := by decide +kernel

/-- The kernel's squared distances in one block, read at a point and a lane. -/
theorem pay2 (i : grid1.Coords) (v0 v2 : Vec Ideal S1x2048x1 .f32) (k : Fin 2048) (l : Fin 256) :
    k1_pay2 (F := Ideal) i v0 v2 (ix2 k l)
      = Sph.distK (v0 (ix3 0 k 0)) (v2 (ix3 0 k 0)) ((((i 1 : ℕ) * 256 + (l : ℕ)) / 128 : ℕ) : ℤ)
          (((((i 1 : ℕ) * 256 + (l : ℕ)) % 128 : ℕ) : ℤ) - 64) := by
  have hr := word_row (i 1) l
  have hc := word_col (i 1) l
  pointwise [k1_pay2]
  have es : ∀ w : BitVec 32, (FloatOps.sitofp FTy.f32 w : Ideal FTy.f32) = (((w.toInt : ℤ) : ℝ) : EReal) := fun _ => rfl
  simp only [es]
  rw [hr, hc]
  rfl

/-- The bits of the kernel's starting value for a minimum are plus infinity. -/
theorem inf_bits : Ideal.ofBits FTy.f32 2139095040#32 = ⊤ := by
  simp [Ideal.ofBits, Ideal.ieee]

/-- The kernel's output of one block, read at a lane: the three rounds on that lane's distances. -/
theorem pay5 (i : grid1.Coords) (v0 v2 v4 : Vec Ideal S1x2048x1 .f32) (l : Fin 256) :
    k1_pay5 (F := Ideal) (k1_pay1 v4) (k1_pay2 i v0 v2) (k1_pay3 i v0 v2) (k1_pay4 i v0 v2)
        (FloatOps.ofBits FTy.f32 0#32) (ix4 0 0 0 l)
      = Sph.interp (fun k => k1_pay2 (F := Ideal) i v0 v2 (ix2 k l)) (fun k => v4 (ix3 0 k 0)) := by
  pointwise [k1_pay5, k1_pay4, k1_pay3, k1_pay1]
  simp only [inf_bits]
  rfl

/-- What the second launch leaves: the interpolated value of every grid point. -/
theorem region1 (c : Dev nD) : (dat1 V c).arrAt 1 cfg1.N = interpOf (V c main_v2) := by
  refine (dat1 V c).arrAt_eq_of_covers 1 _ (by decide +kernel) fun t hf y => ?_
  have e : ∀ (k : Fin 2048) (r : Fin 3), iblk1 V c 0 t (ix3 0 k r)
        = V c main_v2 (ix3 (((View.whole main_v3).slice (win1_1.rect t)).emb y 0) k r) := fun k r => by
      blk_ext [iblk1, idx1_0 t, idx1_1 t]
  have h1 : ((((View.whole main_v3).slice (win1_1.rect t)).emb y 1 : Fin 32) : ℕ) = (grid1.coords t 1 : ℕ) := by
      blk_simp [idx1_1 t]
  have h3 : ((((View.whole main_v3).slice (win1_1.rect t)).emb y 3 : Fin 256) : ℕ) = (y 3 : ℕ) := by
      blk_simp [idx1_1 t]
  blk_simp
  rw [after1_1]
  frame_out
  idx_vars y
  have z0 : y0 = 0 := Subsingleton.elim _ _
  have z1 : y1 = 0 := Subsingleton.elim _ _
  have z2 : y2 = 0 := Subsingleton.elim _ _
  subst z0 z1 z2
  rw [pay5]
  simp only [interpOf, h1, h3, ← e]
  pointwise [pay2]
  congr 1
  funext k
  simp only [distOf, e]

end Cert.KernelIdeal.Result
end
-- ==== Proof.Region2.lean ====
/- The third launch of the kernel: the spherical harmonic transform and the loss. -/
module

public import proofs.«01_k».proof.Proof.Gen.KernelIdeal.Frame
public import proofs.«01_k».proof.Proof.Model
public import Idealize.ShloMosaic.Lib.Pipeline.ValueKit
public import Idealize.ShloMosaic.Lib.Pointwise

@[expose] public section

set_option maxRecDepth 16384

noncomputable section

namespace Cert.KernelIdeal.Result

open Cert.KernelIdeal Cert.KernelIdeal.Gen
open Idealize.ShloMosaic Idealize.ShloMosaic.TcCoe

variable (V : (c : Dev nD) → (b : Ref sig .tc) → Buf (Elt Ideal) ((c : Thread nD τ).loc b))

/-- The kernel's result from the interpolated grids `x`, the targets, and the three tables. -/
def lossOf (x : S2x64x128.Idx → EReal) (tgt : S2x50x50.Idx → EReal) (cs : S50x128.Idx → EReal)
    (w : S50x50x64.Idx → EReal) (rect : S50x1.Idx → EReal) : EReal :=
  let s : Fin 2 → EReal := fun b => Sph.sqErr (Sph.coeff (fun m j => cs (ix2 m j)) (fun l m t => w (ix3 l m t))
    fun t j => x (ix3 b t j)) (fun l m => tgt (ix3 b l m)) fun l => rect (ix2 l 0)
  (s 0 + s 1) * Ideal.ofBits FTy.f32 1056964608#32

/-- Every operand of the launch is one block. -/
theorem idx2 : ∀ t : Fin grid2.N, (cfg2.win 0).index t = ![0, 0, 0] ∧ (cfg2.win 1).index t = ![0, 0, 0]
    ∧ (cfg2.win 2).index t = ![0, 0] ∧ (cfg2.win 3).index t = ![0, 0, 0] ∧ (cfg2.win 4).index t = ![0, 0] := by
  decide +kernel

/-- What the third launch leaves: the mean of the two batches' weighed squared errors. -/
theorem region2 (c : Dev nD) : (dat2 V c).arrAt 5 cfg2.N
    = fun _ => lossOf (V c main_v4) (V c main_arg1) (V c main_cst) (V c main_cst_0) (V c main_cst_1) := by
  refine (dat2 V c).arrAt_eq_of_covers 5 _ (by decide +kernel) fun t hf y => ?_
  have e0 : ∀ (a : Fin 2) (b : Fin 64) (d : Fin 128), iblk2 V c 0 t (ix3 a b d) = V c main_v4 (ix3 a b d) :=
    fun a b d => by blk_ext [iblk2, idx2 t]
  have e1 : ∀ (a : Fin 2) (b d : Fin 50), iblk2 V c 1 t (ix3 a b d) = V c main_arg1 (ix3 a b d) :=
    fun a b d => by blk_ext [iblk2, idx2 t]
  have e2 : ∀ (a : Fin 50) (b : Fin 128), iblk2 V c 2 t (ix2 a b) = V c main_cst (ix2 a b) :=
    fun a b => by blk_ext [iblk2, idx2 t]
  have e3 : ∀ (a b : Fin 50) (d : Fin 64), iblk2 V c 3 t (ix3 a b d) = V c main_cst_0 (ix3 a b d) :=
    fun a b d => by blk_ext [iblk2, idx2 t]
  have e4 : ∀ a : Fin 50, iblk2 V c 4 t (ix2 a 0) = V c main_cst_1 (ix2 a 0) :=
    fun a => by blk_ext [iblk2, idx2 t]
  blk_simp
  rw [after2_5]
  frame_out
  idx_vars y
  pointwise [k2_pay1, k2_pay2, k2_pay3]
  simp only [e0, e1, e2, e3, e4]
  rfl

end Cert.KernelIdeal.Result
end
-- ==== Proof.KernelValue.lean ====
/- The idealized kernel's result as one expression in its arguments: the three launches and the host operations
   between them, put together. -/
module

public import proofs.«01_k».proof.Proof.KernelRun
public import proofs.«01_k».proof.Proof.Region0
public import proofs.«01_k».proof.Proof.Region1
public import proofs.«01_k».proof.Proof.Region2

@[expose] public section

set_option maxRecDepth 16384

noncomputable section

namespace Cert.KernelIdeal.Result

open Cert.KernelIdeal Cert.KernelIdeal.Gen
open Idealize.ShloMosaic Idealize.ShloMosaic.TcCoe

/-- The table of cosines, by order and longitude. -/
def tabCos (m : Fin 50) (j : Fin 128) : EReal := Ideal.ofBits .f32 (lit0 (S50x128.rowMajor (ix2 m j)))
/-- The table of weighed Legendre functions, by degree, order and colatitude. -/
def tabLeg (l m : Fin 50) (t : Fin 64) : EReal := Ideal.ofBits .f32 (lit1 (S50x50x64.rowMajor (ix3 l m t)))
/-- The weights of the degrees. -/
def tabRect (l : Fin 50) : EReal := Ideal.ofBits .f32 (lit2 (S50x1.rowMajor (ix2 l 0)))

section
variable (X : Valuation τ sig (Elt Ideal))

/-- The result reshaped to a scalar. -/
theorem op_v6 : StableHlo.after hostOps3 X (Proc.devRef .tc main_v6)
    = shapeCast S_ (X (Proc.devRef .tc main_v5)) shapeCasts_S1x1_S_ := by
  after_results
  rfl
/-- The interpolated values reshaped to the grid. -/
theorem op_v4 : StableHlo.after hostOps2 X (Proc.devRef .tc main_v4)
    = shapeCast S2x64x128 (X (Proc.devRef .tc main_v3)) shapeCasts_S2x32x1x256_S2x64x128 := by
  after_results
  rfl
/-- The spherical coordinates with the points ahead. -/
theorem op_v2 : StableHlo.after hostOps1 X (Proc.devRef .tc main_v2)
    = transpose S2x2048x3 [0, 2, 1] (X (Proc.devRef .tc main_v1)) transposes_S2x3x2048_S2x2048x3_0_2_1 := by
  after_results
/-- The points with the Cartesian coordinates ahead. -/
theorem op_v0 : StableHlo.after hostOps0 X (Proc.devRef .tc main_v0)
    = transpose S2x3x2048 [0, 2, 1] (X (Proc.devRef .tc main_arg0)) transposes_S2x2048x3_S2x3x2048_0_2_1 := by
  after_results
/-- The first table as the host holds it. -/
theorem op_cst : StableHlo.after hostOps0 X (Proc.devRef .tc main_cst)
    = fun i => Ideal.ofBits .f32 (lit0 (S50x128.rowMajor i)) := by
  after_results
  rfl
/-- The second table as the host holds it. -/
theorem op_cst_0 : StableHlo.after hostOps0 X (Proc.devRef .tc main_cst_0)
    = fun i => Ideal.ofBits .f32 (lit1 (S50x50x64.rowMajor i)) := by
  after_results
  rfl
/-- The third table as the host holds it. -/
theorem op_cst_1 : StableHlo.after hostOps0 X (Proc.devRef .tc main_cst_1)
    = fun i => Ideal.ofBits .f32 (lit2 (S50x1.rowMajor i)) := by
  after_results
  rfl
end

variable (m : (ℓ : Loc nD τ sig) → Buf (Elt Ideal) ℓ) (ρ : Dev nD → PrngReg)

/-- The first table is in place when the third launch starts. -/
theorem V5_cst (c : Dev nD) : V5 m ρ c main_cst = fun i => Ideal.ofBits .f32 (lit0 (S50x128.rowMajor i)) := by
  show W5 m ρ c (Proc.devRef .tc main_cst) = _
  rw [W5_of m ρ c main_cst (by decide), W4_of m ρ c main_cst (by decide), W3_of m ρ c main_cst (by decide),
    W2_of m ρ c main_cst (by decide)]
  exact op_cst _
/-- The second table is in place when the third launch starts. -/
theorem V5_cst_0 (c : Dev nD) : V5 m ρ c main_cst_0 = fun i => Ideal.ofBits .f32 (lit1 (S50x50x64.rowMajor i)) := by
  show W5 m ρ c (Proc.devRef .tc main_cst_0) = _
  rw [W5_of m ρ c main_cst_0 (by decide), W4_of m ρ c main_cst_0 (by decide), W3_of m ρ c main_cst_0 (by decide),
    W2_of m ρ c main_cst_0 (by decide)]
  exact op_cst_0 _
/-- The third table is in place when the third launch starts. -/
theorem V5_cst_1 (c : Dev nD) : V5 m ρ c main_cst_1 = fun i => Ideal.ofBits .f32 (lit2 (S50x1.rowMajor i)) := by
  show W5 m ρ c (Proc.devRef .tc main_cst_1) = _
  rw [W5_of m ρ c main_cst_1 (by decide), W4_of m ρ c main_cst_1 (by decide), W3_of m ρ c main_cst_1 (by decide),
    W2_of m ρ c main_cst_1 (by decide)]
  exact op_cst_1 _
/-- The targets are as launched when the third launch starts. -/
theorem V5_arg1 (c : Dev nD) : V5 m ρ c main_arg1 = m ((c : Thread nD τ).loc main_arg1) :=
  W5_args m ρ c main_arg1 (by decide)

/-- The first launch's operand: the points with the Cartesian coordinates ahead. -/
theorem V1_v0 (c : Dev nD) : V1 m ρ c main_v0
    = transpose S2x3x2048 [0, 2, 1] (m ((c : Thread nD τ).loc main_arg0)) transposes_S2x2048x3_S2x3x2048_0_2_1 :=
  op_v0 _

/-- The second launch's operand: the points' spherical coordinates. -/
theorem V3_v2 (c : Dev nD) (b : Fin 2) (k : Fin 2048) (r : Fin 3) : V3 m ρ c main_v2 (ix3 b k r)
    = Sph.coord (r : ℕ) (m ((c : Thread nD τ).loc main_arg0) (ix3 b k 0))
        (m ((c : Thread nD τ).loc main_arg0) (ix3 b k 1)) (m ((c : Thread nD τ).loc main_arg0) (ix3 b k 2)) := by
  have h : V3 m ρ c main_v2
      = transpose S2x2048x3 [0, 2, 1] (sphOf (V1 m ρ c main_v0)) transposes_S2x3x2048_S2x2048x3_0_2_1 := by
    show StableHlo.after hostOps1 (W2 m ρ c) (Proc.devRef .tc main_v2) = _
    rw [op_v2]
    congr 1
    exact (W2_arr m ρ c 1).trans (region0 (V1 m ρ) c)
  rw [h, V1_v0]
  pointwise [sphOf]

/-- The interpolated values read as a grid, the spherical coordinates given by the points. -/
theorem grid_read (Y : S2x2048x3.Idx → EReal) (x : Fin 2 → Fin 2048 → Fin 3 → EReal)
    (h : ∀ b k (r : Fin 3), Y (ix3 b k r) = Sph.coord (r : ℕ) (x b k 0) (x b k 1) (x b k 2))
    (b : Fin 2) (t : Fin 64) (j : Fin 128) :
    shapeCast S2x64x128 (interpOf Y) shapeCasts_S2x32x1x256_S2x64x128 (ix3 b t j) = Sph.kernelGrid (x b) t j := by
  pointwise [interpOf]
  have hg : (t : ℕ) / 2 * 256 + ((t : ℕ) % 2 * 128 + (j : ℕ)) = (t : ℕ) * 128 + (j : ℕ) := by omega
  have hd : ((t : ℕ) * 128 + (j : ℕ)) / 128 = (t : ℕ) := by omega
  have hm : ((t : ℕ) * 128 + (j : ℕ)) % 128 = (j : ℕ) := by omega
  rw [hg]
  simp only [h]
  unfold Sph.kernelGrid
  congr 1
  funext k
  simp only [distOf, h, hd, hm]
  rfl

/-- The third launch's operand: the interpolated grid. -/
theorem V5_v4 (c : Dev nD) (b : Fin 2) (t : Fin 64) (j : Fin 128) : V5 m ρ c main_v4 (ix3 b t j)
    = Sph.kernelGrid (fun k r => m ((c : Thread nD τ).loc main_arg0) (ix3 b k r)) t j := by
  have h : V5 m ρ c main_v4
      = shapeCast S2x64x128 (interpOf (V3 m ρ c main_v2)) shapeCasts_S2x32x1x256_S2x64x128 := by
    show StableHlo.after hostOps2 (W4 m ρ c) (Proc.devRef .tc main_v4) = _
    rw [op_v4]
    congr 1
    exact (W4_arr m ρ c 1).trans (region1 (V3 m ρ) c)
  rw [h]
  exact grid_read _ (fun b k r => m ((c : Thread nD τ).loc main_arg0) (ix3 b k r)) (V3_v2 m ρ c) b t j

/-- The third launch's result, the grid and the tables given by their values. -/
theorem lossOf_eq (X : S2x64x128.Idx → EReal) (tgt : S2x50x50.Idx → EReal) (cs : S50x128.Idx → EReal)
    (w : S50x50x64.Idx → EReal) (rect : S50x1.Idx → EReal) (x : Fin 2 → Fin 2048 → Fin 3 → EReal)
    (h : ∀ b t j, X (ix3 b t j) = Sph.kernelGrid (x b) t j) (hcs : ∀ m j, cs (ix2 m j) = tabCos m j)
    (hw : ∀ l m t, w (ix3 l m t) = tabLeg l m t) (hr : ∀ l, rect (ix2 l 0) = tabRect l) :
    lossOf X tgt cs w rect = Sph.kernelLoss tabCos tabLeg tabRect x fun b l o => tgt (ix3 b l o) := by
  simp only [lossOf, h, hcs, hw, hr]
  rfl

/-- The kernel's result as a function of its two arguments. -/
theorem value (c : Dev nD) : W7 m ρ c (Proc.devRef .tc main_v6) = fun _ => Sph.kernelLoss tabCos tabLeg tabRect
    (fun b k r => m ((c : Thread nD τ).loc main_arg0) (ix3 b k r))
    (fun b l o => m ((c : Thread nD τ).loc main_arg1) (ix3 b l o)) := by
  have h : W7 m ρ c (Proc.devRef .tc main_v6) = shapeCast S_ (fun _ => lossOf (V5 m ρ c main_v4) (V5 m ρ c main_arg1)
      (V5 m ρ c main_cst) (V5 m ρ c main_cst_0) (V5 m ρ c main_cst_1)) shapeCasts_S1x1_S_ := by
    show StableHlo.after hostOps3 (W6 m ρ c) (Proc.devRef .tc main_v6) = _
    rw [op_v6]
    congr 1
    exact (W6_arr m ρ c 5).trans (region2 (V5 m ρ) c)
  rw [h]
  funext i
  rw [V5_arg1, V5_cst, V5_cst_0, V5_cst_1]
  have hs : ∀ (v : EReal) (i : S_.Idx), shapeCast S_ (fun _ : S1x1.Idx => v) shapeCasts_S1x1_S_ i = v :=
    fun _ _ => rfl
  rw [hs]
  refine lossOf_eq _ _ _ _ _ _ ?_ ?_ ?_ ?_
  · exact V5_v4 m ρ c
  · intro a b; unfold tabCos; rfl
  · intro a b d; unfold tabLeg; rfl
  · intro a; unfold tabRect; rfl

end Cert.KernelIdeal.Result
end
-- ==== Proof.Words.lean ====
/- The words that number the grid's points, and the order by which points are sorted. -/
module

public import proofs.«01_k».proof.Proof.Model

@[expose] public section

set_option maxRecDepth 16384

noncomputable section

namespace Cert.Sph

open Idealize.ShloMosaic

/-- The row number of a grid point, as a word. -/
theorem word_row : ∀ t : Fin 64, (BitVec.ofNat 32 (t : ℕ)).toInt = ((t : ℕ) : ℤ) := by decide +kernel
/-- The shifted column number of a grid point, as a word. -/
theorem word_col : ∀ j : Fin 128, (IntOp.addi (4294967232#32) (BitVec.ofNat 32 (j : ℕ))).toInt = ((j : ℕ) : ℤ) - 64 := by
  decide +kernel

/-- A sort's order by a float comparison, as a decision on the extended reals. -/
theorem before_eq (x y : EReal) :
    (FloatOps.cmpfTotal (F := Ideal) (φ := .f32) .gt x y == 1#1) = decide (y < x) := by
  show (BitVec.ofBool (decide (y < x)) == 1#1) = _
  by_cases h : y < x <;> simp [h]

end Cert.Sph

end
-- ==== Proof.RefValue.lean ====
/- The reference's result as one expression in its arguments. -/
module

public import proofs.«01_k».proof.Proof.Gen.ReferenceIdeal.Run
public import proofs.«01_k».proof.Proof.Words
public import Idealize.ShloMosaic.Lib.Pointwise
public import Idealize.ShloMosaic.Lib.Tactic.CleanTypes

@[expose] public section

set_option maxRecDepth 16384

noncomputable section

namespace Cert.ReferenceIdeal.Result

open Cert.ReferenceIdeal Cert.ReferenceIdeal.Gen
open Idealize.ShloMosaic Idealize.ShloMosaic.TcCoe

variable (L : Valuation τ sig (Elt Ideal))

/-- The points, by batch, number and Cartesian coordinate. -/
def pts (b : Fin 2) (k : Fin 2048) (r : Fin 3) : EReal :=
  (L (Proc.devRef .tc main_arg0) : FVec Ideal S2x2048x3 .f32) (ix3 b k r)
/-- The targets, by batch, degree and order. -/
def tgts (b : Fin 2) (l m : Fin 50) : EReal :=
  (L (Proc.devRef .tc main_arg1) : FVec Ideal S2x50x50 .f32) (ix3 b l m)
/-- The table of cosines, by order and longitude. -/
def tabCos (m : Fin 50) (j : Fin 128) : EReal := Ideal.ofBits .f32 (lit0 (S50x128.rowMajor (ix2 m j)))
/-- The table of weighed Legendre functions, by degree, order and colatitude: two blocks of constants, and zero where the
degree is below four and the order isn't. -/
def tabLeg (l m : Fin 50) (t : Fin 64) : EReal :=
  if h : l.val < 4 then
    if h' : m.val < 4 then Ideal.ofBits .f32 (lit1 (S4x4x64.rowMajor (ix3 ⟨l.val, h⟩ ⟨m.val, h'⟩ t))) else 0
  else Ideal.ofBits .f32 (lit2 (S46x50x64.rowMajor (ix3 ⟨l.val - 4, by omega⟩ m t)))
/-- The weights of the degrees. -/
def tabRect (l : Fin 50) : EReal := Ideal.ofBits .f32 (lit3 (S50.rowMajor (ix1 l)))

/-- The distances from the origin. -/
theorem v1_apply (b : Fin 2) (k : Fin 2048) (z : Fin 1) :
    (Value.res_main_v1 L : FVec Ideal S2x2048x1 .f32) (ix3 b k z) = Sph.rhoR (pts L b k) := by
  unfold Value.res_main_v1
  clean_types
  pointwise
  rfl

/-- The angles. -/
theorem v11_apply (b : Fin 2) (k : Fin 2048) (r : Fin 2) :
    (Value.res_main_v11 L : FVec Ideal S2x2048x2 .f32) (ix3 b k r) = Sph.angle (pts L b k) r := by
  have h1 := v1_apply L b k
  unfold Value.res_main_v11
  clean_types
  pointwise
  simp only [h1]
  unfold Sph.angle
  by_cases h : (r : ℕ) < 1
  · rw [dif_pos h, if_pos h]
    obtain rfl : r = 0 := Fin.ext (by omega)
    rfl
  · rw [dif_neg h, if_neg h]
    obtain rfl : r = 1 := Fin.ext (by omega)
    rfl

/-- The grid points. -/
theorem v27_apply (g : Fin 8192) (r : Fin 2) :
    (Value.res_main_v27 L : FVec Ideal S8192x2 .f32) (ix2 g r) = Sph.gridPt g r := by
  have hr := Sph.word_row ⟨(g : ℕ) / 128, by omega⟩
  have hc := Sph.word_col ⟨(g : ℕ) % 128, by omega⟩
  have es : ∀ w : BitVec 32, (FloatOps.sitofp FTy.f32 w : Ideal FTy.f32) = (((w.toInt : ℤ) : ℝ) : EReal) := fun _ => rfl
  unfold Value.res_main_v27
  clean_types
  pointwise
  unfold Sph.gridPt
  simp only [es]
  by_cases h : (r : ℕ) < 1
  · rw [dif_pos h, if_pos h, hr]; rfl
  · rw [dif_neg h, if_neg h, hc]; rfl

/-- The scores. -/
theorem v42_apply (b : Fin 2) (g : Fin 8192) (k : Fin 2048) :
    (Value.res_main_v42 L : FVec Ideal S2x8192x2048 .f32) (ix3 b g k)
      = Sph.score (Sph.angle (pts L b k)) (Sph.gridPt g) := by
  unfold Value.res_main_v42
  clean_types
  pointwise
  simp only [v11_apply, v27_apply]
  rfl

/-- The numbers of the three points that the reference takes. -/
theorem indices_apply (b : Fin 2) (g : Fin 8192) (r : Fin 3) :
    (Value.res_main_indices L : IVec S2x8192x3 32) (ix3 b g r)
      = BitVec.ofNat 32 (Sph.pick (fun k => Sph.score (Sph.angle (pts L b k)) (Sph.gridPt g)) ⟨(r : ℕ), by omega⟩).val := by
  have ha : ∀ (k k' : Fin 2048), Shape.Idx.along (s := S2x8192x2048) (ix3 b g k) 2 k' = ix3 b g k' := by
    intro k k'
    funext a
    match a with
    | ⟨0, _⟩ => rfl
    | ⟨1, _⟩ => rfl
    | ⟨2, _⟩ => rfl
  unfold Value.res_main_indices Host.topK Host.sort2
  clean_types
  pointwise
  simp only [ha, v42_apply, Sph.before_eq]
  rfl

/-- The wrap of a negative index changes no index of the points. -/
theorem wrap_word : ∀ k : Fin 2048, Scalar.select (IntOp.cmpi .slt (BitVec.ofNat 32 (k : ℕ)) 0#32)
    (IntOp.addi (BitVec.ofNat 32 (k : ℕ)) 2048#32) (BitVec.ofNat 32 (k : ℕ)) = BitVec.ofNat 32 (k : ℕ) := by
  decide +kernel
/-- An index of the points read off its word. -/
theorem read_word : ∀ k : Fin 2048, min (BitVec.ofNat 32 (k : ℕ)).toInt.toNat 2047 = (k : ℕ) := by
  decide +kernel

/-- The gather of one number for each point named. -/
theorem gather1 (x : S2x2048.Idx → EReal) (idx : IVec S2x8192x3x1 32) (b : Fin 2) (g : Fin 8192) (r : Fin 3)
    (k : Fin 2048) (h : idx (ix4 b g r 0) = BitVec.ofNat 32 (k : ℕ)) :
    Host.gather gather_S2x2048_S2x8192x3x1_S2x8192x3_n_1_0_0_1_3_11 x idx (ix3 b g r) = x (ix2 b k) := by
  unfold Host.gather
  congr 1
  funext a
  apply Fin.ext
  match a with
  | ⟨0, _⟩ =>
    show gather_S2x2048_S2x8192x3x1_S2x8192x3_n_1_0_0_1_3_11.start (ix3 b g r) idx 0
      + gather_S2x2048_S2x8192x3x1_S2x8192x3_n_1_0_0_1_3_11.batchCoord (ix3 b g r) 0
      + gather_S2x2048_S2x8192x3x1_S2x8192x3_n_1_0_0_1_3_11.offCoord (ix3 b g r) 0 = (b : ℕ)
    rw [GatherDims.start_batching _ _ _ 0 (by decide), GatherDims.offCoord_eq_zero _ _ 0 (by decide), Nat.zero_add,
      Nat.add_zero]
    rfl
  | ⟨1, _⟩ =>
    show gather_S2x2048_S2x8192x3x1_S2x8192x3_n_1_0_0_1_3_11.start (ix3 b g r) idx 1
      + gather_S2x2048_S2x8192x3x1_S2x8192x3_n_1_0_0_1_3_11.batchCoord (ix3 b g r) 1
      + gather_S2x2048_S2x8192x3x1_S2x8192x3_n_1_0_0_1_3_11.offCoord (ix3 b g r) 1 = (k : ℕ)
    rw [GatherDims.batchCoord_eq_zero _ _ 1 (by decide), GatherDims.offCoord_eq_zero _ _ 1 (by decide), Nat.add_zero]
    have hs : ∀ h, gather_S2x2048_S2x8192x3x1_S2x8192x3_n_1_0_0_1_3_11.siIdx (ix3 b g r) ⟨0, h⟩ = ix4 b g r 0 := by
      intro h
      funext c
      match c with
      | ⟨0, _⟩ => rfl
      | ⟨1, _⟩ => rfl
      | ⟨2, _⟩ => rfl
      | ⟨3, _⟩ => rfl
    unfold GatherDims.start
    rw [dif_pos (by decide)]
    refine Eq.trans ?_ (read_word k)
    rw [← h, ← hs (by decide)]
    rfl

/-- The gather of a pair of numbers for each point named. -/
theorem gather2 (x : S2x2048x2.Idx → EReal) (idx : IVec S2x8192x3x1 32) (b : Fin 2) (g : Fin 8192) (r : Fin 3)
    (c : Fin 2) (k : Fin 2048) (h : idx (ix4 b g r 0) = BitVec.ofNat 32 (k : ℕ)) :
    Host.gather gather_S2x2048x2_S2x8192x3x1_S2x8192x3x2_3_1_0_0_1_3_112 x idx (ix4 b g r c) = x (ix3 b k c) := by
  unfold Host.gather
  congr 1
  funext a
  apply Fin.ext
  match a with
  | ⟨0, _⟩ =>
    show gather_S2x2048x2_S2x8192x3x1_S2x8192x3x2_3_1_0_0_1_3_112.start (ix4 b g r c) idx 0
      + gather_S2x2048x2_S2x8192x3x1_S2x8192x3x2_3_1_0_0_1_3_112.batchCoord (ix4 b g r c) 0
      + gather_S2x2048x2_S2x8192x3x1_S2x8192x3x2_3_1_0_0_1_3_112.offCoord (ix4 b g r c) 0 = (b : ℕ)
    rw [GatherDims.start_batching _ _ _ 0 (by decide), GatherDims.offCoord_eq_zero _ _ 0 (by decide), Nat.zero_add,
      Nat.add_zero]
    rfl
  | ⟨1, _⟩ =>
    show gather_S2x2048x2_S2x8192x3x1_S2x8192x3x2_3_1_0_0_1_3_112.start (ix4 b g r c) idx 1
      + gather_S2x2048x2_S2x8192x3x1_S2x8192x3x2_3_1_0_0_1_3_112.batchCoord (ix4 b g r c) 1
      + gather_S2x2048x2_S2x8192x3x1_S2x8192x3x2_3_1_0_0_1_3_112.offCoord (ix4 b g r c) 1 = (k : ℕ)
    rw [GatherDims.batchCoord_eq_zero _ _ 1 (by decide), GatherDims.offCoord_eq_zero _ _ 1 (by decide), Nat.add_zero]
    have hs : ∀ h, gather_S2x2048x2_S2x8192x3x1_S2x8192x3x2_3_1_0_0_1_3_112.siIdx (ix4 b g r c) ⟨0, h⟩ = ix4 b g r 0 := by
      intro h
      funext c
      match c with
      | ⟨0, _⟩ => rfl
      | ⟨1, _⟩ => rfl
      | ⟨2, _⟩ => rfl
      | ⟨3, _⟩ => rfl
    unfold GatherDims.start
    rw [dif_pos (by decide)]
    refine Eq.trans ?_ (read_word k)
    rw [← h, ← hs (by decide)]
    rfl
  | ⟨2, _⟩ =>
    show gather_S2x2048x2_S2x8192x3x1_S2x8192x3x2_3_1_0_0_1_3_112.start (ix4 b g r c) idx 2
      + gather_S2x2048x2_S2x8192x3x1_S2x8192x3x2_3_1_0_0_1_3_112.batchCoord (ix4 b g r c) 2
      + gather_S2x2048x2_S2x8192x3x1_S2x8192x3x2_3_1_0_0_1_3_112.offCoord (ix4 b g r c) 2 = (c : ℕ)
    rw [GatherDims.batchCoord_eq_zero _ _ 2 (by decide)]
    unfold GatherDims.start
    rw [dif_neg (by decide), Nat.zero_add]
    rfl

/-- The numbers of the three points that the reference takes at a grid point. -/
def sel (b : Fin 2) (g : Fin 8192) (r : Fin 3) : Fin 2048 :=
  Sph.pick (fun k => Sph.score (Sph.angle (pts L b k)) (Sph.gridPt g)) ⟨(r : ℕ), by omega⟩

/-- The index array as the gathers take it. -/
def wrapped (L : Valuation τ sig (Elt Ideal)) : IVec S2x8192x3x1 32 :=
  broadcastInDim S2x8192x3x1 ![0, 1, 2] bcast_S2x8192x3_S2x8192x3x1_0_1_2
    (select (cmpi .slt (Value.res_main_indices L) (broadcastInDim S2x8192x3 ![] bcast_S_S2x8192x3 (constantI S_ 32 0#32)))
      (addi (Value.res_main_indices L) (broadcastInDim S2x8192x3 ![] bcast_S_S2x8192x3 (constantI S_ 32 2048#32)))
      (Value.res_main_indices L))

/-- Read at a place, that array names the point taken. -/
theorem wrapped_apply (b : Fin 2) (g : Fin 8192) (r : Fin 3) :
    wrapped L (ix4 b g r 0) = BitVec.ofNat 32 (sel L b g r).val := by
  have h := indices_apply L b g r
  unfold wrapped
  clean_types
  pointwise
  rw [h]
  exact wrap_word (sel L b g r)

/-- The differences of the points taken from the grid point. -/
theorem v52_apply (b : Fin 2) (g : Fin 8192) (r : Fin 3) (c : Fin 2) :
    (Value.res_main_v52 L : FVec Ideal S2x8192x3x2 .f32) (ix4 b g r c)
      = Sph.angle (pts L b (sel L b g r)) c - Sph.gridPt g c := by
  have h : (Value.res_main_v52 L : FVec Ideal S2x8192x3x2 .f32)
      = subf (Host.gather gather_S2x2048x2_S2x8192x3x1_S2x8192x3x2_3_1_0_0_1_3_112 (Value.res_main_v11 L) (wrapped L))
          (broadcastInDim S2x8192x3x2 ![0, 1, 2, 3] bcast_S1x8192x1x2_S2x8192x3x2_0_1_2_3
            (broadcastInDim S1x8192x1x2 ![1, 3] bcast_S8192x2_S1x8192x1x2_1_3 (Value.res_main_v27 L))) := rfl
  rw [h]
  pointwise
  rw [gather2 _ _ b g r c _ (wrapped_apply L b g r), v11_apply, v27_apply]

/-- The plain distances of the points taken from the grid point. -/
theorem v55_apply (b : Fin 2) (g : Fin 8192) (r : Fin 3) :
    (Value.res_main_v55 L : FVec Ideal S2x8192x3 .f32) (ix3 b g r)
      = Sph.dist2 (Sph.angle (pts L b (sel L b g r))) (Sph.gridPt g) := by
  unfold Value.res_main_v55
  clean_types
  pointwise
  simp only [v52_apply]
  rfl

/-- The distances from the origin of the points taken. -/
theorem v66_apply (b : Fin 2) (g : Fin 8192) (r : Fin 3) :
    Host.gather gather_S2x2048_S2x8192x3x1_S2x8192x3_n_1_0_0_1_3_11
        (shapeCast S2x2048 (Value.res_main_v1 L : FVec Ideal S2x2048x1 .f32) shapeCasts_S2x2048x1_S2x2048) (wrapped L) (ix3 b g r)
      = Sph.rhoR (pts L b (sel L b g r)) := by
  rw [gather1 _ _ b g r _ (wrapped_apply L b g r)]
  pointwise
  exact v1_apply L b _ _

/-- The error of a coefficient. -/
theorem v76_apply (b : Fin 2) (l m : Fin 50) :
    (Value.res_main_v76 L : FVec Ideal S2x50x50 .f32) (ix3 b l m)
      = Sph.coeffR tabCos tabLeg (Sph.refGrid (pts L b)) l m - tgts L b l m := by
  have hw := v66_apply L
  unfold wrapped at hw
  unfold Value.res_main_v76
  clean_types
  pointwise
  simp only [hw, v55_apply]
  rfl

/-- The reference's result as a function of its arguments. -/
theorem value : (Host.divf (Host.reduceAdd (Host.reduceAdd (mulf (mulf (Value.res_main_v76 L) (Value.res_main_v76 L)) (broadcastInDim S2x50x50 ![0, 1, 2] bcast_S1x50x1_S2x50x50_0_1_2 (broadcastInDim S1x50x1 ![1] bcast_S50_S1x50x1_1 (fun i => FloatOps.ofBits .f32 (lit3 (S50.rowMajor i)))))) (constant S_ .f32 0x00000000#32) reducesTo_S2x50x50_S2_d1_2 h_S_) (constant S_ .f32 0x00000000#32) reducesTo_S2_S_d0 h_S_) (constant S_ .f32 0x40000000#32) : FVec Ideal S_ .f32)
    = fun _ => Sph.refLoss tabCos tabLeg tabRect (pts L) (tgts L) := by
  funext i
  clean_types
  pointwise
  simp only [v76_apply]
  rfl

end Cert.ReferenceIdeal.Result
end
-- ==== Proof.Tables.lean ====
/- The two programs hold the same tables. -/
module

public import proofs.«01_k».proof.KernelIdeal
public import proofs.«01_k».proof.ReferenceIdeal

@[expose] public section

set_option maxRecDepth 100000

namespace Cert.Tables

/-- The table of cosines. -/
theorem lit0_eq : Cert.KernelIdeal.lit0 = Cert.ReferenceIdeal.lit0 := rfl

/-- The table of weighed Legendre functions below the fourth degree: the reference's first block at the orders below
four, and zero from there on. -/
theorem low : ∀ (l : Fin 4) (m : Fin 50) (t : Fin 64), Cert.KernelIdeal.lit1t (3200 * l.val + 64 * m.val + t.val)
    = if m.val < 4 then Cert.ReferenceIdeal.lit1t (256 * l.val + 64 * m.val + t.val) else 0#32 := by
  decide +kernel

/-- The weights of the degrees. -/
theorem weights_eq : Cert.KernelIdeal.lit2 = Cert.ReferenceIdeal.lit3 := rfl

end Cert.Tables
-- ==== Proof.Tail.lean ====
/- From the fourth degree on the two programs hold the same table of weighed Legendre functions. -/
module

public import proofs.«01_k».proof.KernelIdeal
public import proofs.«01_k».proof.ReferenceIdeal
import Mathlib.Tactic.IntervalCases

@[expose] public section

set_option maxRecDepth 100000

namespace Cert.Tables

set_option maxHeartbeats 0 in
/-- The kernel's table from entry 12800 on is the reference's second block. Both are trees over an index's digits: for
each of the leading ones the two reach leaves of the same 128 entries, and read them at the same last digit. -/
theorem tail (j : ℕ) (h : j < 147200) :
    Cert.KernelIdeal.lit1t (j + 12800) = Cert.ReferenceIdeal.lit2t j := by
  have hd : (j + 12800) % 128 = j % 128 := by omega
  have ha : j / 16384 < 9 := by omega
  have hb : j / 128 % 128 < 128 := by omega
  have hl : j / 16384 * 128 + j / 128 % 128 < 1150 := by omega
  generalize hA : j / 16384 = a at ha hl
  generalize hB : j / 128 % 128 = b at hb hl
  have hA' : (j + 12800) / 16384 = (128 * a + b + 100) / 128 := by omega
  have hB' : (j + 12800) / 128 % 128 = (b + 100) % 128 := by omega
  clear h
  interval_cases a
  all_goals
    conv => rhs; whnf
    rw [hA]
    conv => rhs; whnf
    interval_cases b <;> try omega
    all_goals
      simp only [Nat.reduceMul, Nat.reduceAdd, Nat.reduceDiv, Nat.reduceMod] at hA' hB'
      rw [hB]
      conv => rhs; whnf
      conv => lhs; whnf
      rw [hA']
      conv => lhs; whnf
      rw [hB']
      conv => lhs; whnf
      rw [hd]
      rfl

end Cert.Tables
-- ==== Proof.Legendre.lean ====
/- The two programs hold the same weighed Legendre functions, the reference's assembled from blocks. -/
module

public import proofs.«01_k».proof.Proof.KernelValue
public import proofs.«01_k».proof.Proof.RefValue
public import proofs.«01_k».proof.Proof.Tables
public import proofs.«01_k».proof.Proof.Tail

@[expose] public section

noncomputable section

namespace Cert.Tables

open Idealize.ShloMosaic

/-- An entry of the kernel's table, by its number. -/
theorem word_full : ∀ i, Cert.KernelIdeal.lit1 i = Cert.KernelIdeal.lit1t i.val := fun ⟨_, _⟩ => rfl
/-- The same of the reference's first block. -/
theorem word_low : ∀ i, Cert.ReferenceIdeal.lit1 i = Cert.ReferenceIdeal.lit1t i.val := fun ⟨_, _⟩ => rfl
/-- The same of its second. -/
theorem word_tail : ∀ i, Cert.ReferenceIdeal.lit2 i = Cert.ReferenceIdeal.lit2t i.val := fun ⟨_, _⟩ => rfl

/-- A table whose words agree with two blocks and zeros reads so at every degree, order and colatitude. -/
theorem assemble (w a b : ℕ → BitVec 32) (W : Fin 160000 → BitVec 32) (A : Fin 1024 → BitVec 32)
    (B : Fin 147200 → BitVec 32)
    (hW : ∀ i, W i = w i.val) (hA : ∀ i, A i = a i.val) (hB : ∀ i, B i = b i.val)
    (hlow : ∀ (l : Fin 4) (m : Fin 50) (t : Fin 64), w (3200 * l.val + 64 * m.val + t.val)
      = if m.val < 4 then a (256 * l.val + 64 * m.val + t.val) else 0#32)
    (htail : ∀ j, j < 147200 → w (j + 12800) = b j) (l m : Fin 50) (t : Fin 64) :
    Ideal.ofBits .f32 (W (Cert.KernelIdeal.S50x50x64.rowMajor (ix3 l m t)))
      = if h : l.val < 4 then
          if h' : m.val < 4 then Ideal.ofBits .f32 (A (Cert.ReferenceIdeal.S4x4x64.rowMajor (ix3 ⟨l.val, h⟩ ⟨m.val, h'⟩ t))) else 0
        else Ideal.ofBits .f32 (B (Cert.ReferenceIdeal.S46x50x64.rowMajor (ix3 ⟨l.val - 4, by omega⟩ m t))) := by
  have hk : (Cert.KernelIdeal.S50x50x64.rowMajor (ix3 l m t)).val = 3200 * l.val + 64 * m.val + t.val := by
    refine (Shape.rowMajor_val_three _).trans ?_
    show (l.val * 50 + m.val) * 64 + t.val = _
    omega
  rw [show W (Cert.KernelIdeal.S50x50x64.rowMajor (ix3 l m t)) = w _ from (hW _).trans (congrArg w hk)]
  by_cases h : l.val < 4
  · rw [dif_pos h, hlow ⟨l.val, h⟩ m t]
    by_cases h' : m.val < 4
    · rw [dif_pos h', if_pos h']
      refine congrArg (Ideal.ofBits .f32) (((hA _).trans (congrArg a ?_)).symm)
      refine ((Shape.rowMajor_val_three _).trans ?_)
      show (l.val * 4 + m.val) * 64 + t.val = 256 * l.val + 64 * m.val + t.val
      omega
    · rw [dif_neg h', if_neg h']
      exact Ideal.ofBits_zero .f32
  · have hj : 3200 * l.val + 64 * m.val + t.val = (3200 * (l.val - 4) + 64 * m.val + t.val) + 12800 := by omega
    rw [dif_neg h, hj, htail _ (by omega)]
    refine congrArg (Ideal.ofBits .f32) (((hB _).trans (congrArg b ?_)).symm)
    refine ((Shape.rowMajor_val_three _).trans ?_)
    show ((l.val - 4) * 50 + m.val) * 64 + t.val = _
    omega

/-- The two programs read the same weighed Legendre functions. -/
theorem leg_eq : Cert.KernelIdeal.Result.tabLeg = Cert.ReferenceIdeal.Result.tabLeg := by
  funext l m t
  have h := assemble Cert.KernelIdeal.lit1t Cert.ReferenceIdeal.lit1t Cert.ReferenceIdeal.lit2t Cert.KernelIdeal.lit1
    Cert.ReferenceIdeal.lit1 Cert.ReferenceIdeal.lit2 word_full word_low word_tail low tail l m t
  unfold Cert.KernelIdeal.Result.tabLeg Cert.ReferenceIdeal.Result.tabLeg
  refine h.trans ?_
  split
  · split <;> with_reducible rfl
  · with_reducible rfl

end Cert.Tables

end
-- ==== Proof.Pre.lean ====
/- What the precondition says of the points. -/
module

public import proofs.«01_k».proof.Proof.Gen.Pre_separated
public import proofs.«01_k».proof.Proof.Words
public import Idealize.ShloMosaic.Lib.ReduceAll
public import Idealize.ShloMosaic.Lib.Pointwise
public import Idealize.ShloMosaic.Lib.Tactic.CleanTypes

@[expose] public section

set_option maxRecDepth 16384

noncomputable section

namespace Cert.Pre_separated.Result

open Cert.Pre_separated Cert.Pre_separated.Gen
open Idealize.ShloMosaic

/-- The index of a number. -/
def at0 : S_.Idx := Shape.Idx.first h_S_

instance : Subsingleton S_.Idx := ⟨fun a b => funext fun k => k.elim0⟩

/-- A comparison that holds, as an order of extended reals. -/
theorem gt_iff (x y : EReal) : FloatOps.cmpf (F := Ideal) (φ := .f32) .ogt x y = 1#1 ↔ y < x := by
  show BitVec.ofBool (decide (y < x)) = 1#1 ↔ _
  by_cases h : y < x <;> simp [h]
/-- A comparison that holds, as an order of extended reals. -/
theorem lt_iff (x y : EReal) : FloatOps.cmpf (F := Ideal) (φ := .f32) .olt x y = 1#1 ↔ x < y := by
  show BitVec.ofBool (decide (x < y)) = 1#1 ↔ _
  by_cases h : x < y <;> simp [h]

/-- The last part of the precondition: its first conjunct, no point at the origin, the four values strictly falling. -/
theorem part2 (x : FVec Ideal S2x2048x3 .f32) (v : FVec Ideal S2x8192x4 .f32) (e : IVec S_ 1)
    (h : fn_part2 (F := Ideal) x v e = fun _ => 1#1) :
    e at0 = 1#1 ∧ (∀ (b : Fin 2) (k : Fin 2048), 0 < ∑ r : Fin 3, x (ix3 b k r) * x (ix3 b k r))
      ∧ ∀ (b : Fin 2) (g : Fin 8192) (r : Fin 3), v (ix3 b g ⟨(r : ℕ) + 1, by omega⟩) < v (ix3 b g ⟨(r : ℕ), by omega⟩) := by
  have h0 := congrFun h at0
  unfold fn_part2 at h0
  obtain ⟨h1, h2⟩ := IntOp.andi_eq_one.1 h0
  obtain ⟨h3, h4⟩ := IntOp.andi_eq_one.1 h1
  refine ⟨h3, fun b k => ?_, fun b g r => ?_⟩
  · have h5 := (gt_iff _ _).1 (Host.reduce_andi_all _ _ _ _ _ h4 (ix2 b k))
    have e5 : (Host.reduceAdd (mulf x x) (constant S_ .f32 0x00000000#32) reducesTo_S2x2048x3_S2x2048_d2 h_S_
        : FVec Ideal S2x2048 .f32) (ix2 b k) = ∑ r : Fin 3, x (ix3 b k r) * x (ix3 b k r) := by
      clean_types
      pointwise
    have e6 : (broadcastInDim S2x2048 ![] bcast_S_S2x2048 (constant S_ .f32 0x00000000#32) : FVec Ideal S2x2048 .f32) (ix2 b k)
        = (0 : EReal) := by
      clean_types
      pointwise
    exact lt_of_eq_of_lt e6.symm (lt_of_lt_of_eq h5 e5)
  · have h5 := (gt_iff _ _).1 (Host.reduce_andi_all _ _ _ _ _ h2 (ix3 b g r))
    have e5 : (extractStridedSlice S2x8192x3 ![0, 0, 0] v slices_S2x8192x4_S2x8192x3_0_0_0) (ix3 b g r)
        = v (ix3 b g ⟨(r : ℕ), by omega⟩) := by
      clean_types
      pointwise
    have e6 : (extractStridedSlice S2x8192x3 ![0, 0, 1] v slices_S2x8192x4_S2x8192x3_0_0_1) (ix3 b g r)
        = v (ix3 b g ⟨(r : ℕ) + 1, by omega⟩) := by
      clean_types
      pointwise
      exact congrArg (fun a => v (ix3 b g a)) (Fin.ext (Nat.add_comm _ _))
    exact lt_of_eq_of_lt e6.symm (lt_of_lt_of_eq h5 e5)

/-- Minus the squared distance of two points of the plane. -/
def near (s p : Fin 2 → EReal) : EReal := -∑ c, (s c - p c) * (s c - p c)

/-- The grid as the precondition makes it of its two columns of words. -/
def gridOf (a b : IVec S8192x1 32) : FVec Ideal S8192x2 .f32 :=
  mulf (Host.divf (sitofp .f32 (concatenate S8192x2 1 [⟨S8192x1, a⟩, ⟨S8192x1, b⟩] concatenates_S8192x1_S8192x1_S8192x2_d1))
    (broadcastInDim S8192x2 ![] bcast_S_S8192x2 (constant S_ .f32 0x42800000#32)))
    (broadcastInDim S8192x2 ![] bcast_S_S8192x2 (constant S_ .f32 0x40490FDB#32))

/-- The values that the precondition orders. -/
def valuesOf (s : FVec Ideal S2x1x2048x2 .f32) (g : FVec Ideal S8192x2 .f32) : FVec Ideal S2x8192x2048 .f32 :=
  let d := subf (broadcastInDim S2x8192x2048x2 ![0, 1, 2, 3] bcast_S2x1x2048x2_S2x8192x2048x2_0_1_2_3 s)
    (broadcastInDim S2x8192x2048x2 ![0, 1, 2, 3] bcast_S1x8192x1x2_S2x8192x2048x2_0_1_2_3
      (broadcastInDim S1x8192x1x2 ![1, 3] bcast_S8192x2_S1x8192x1x2_1_3 g))
  Host.negf (Host.reduceAdd (mulf d d) (constant S_ .f32 0x00000000#32) reducesTo_S2x8192x2048x2_S2x8192x2048_d3 h_S_)

/-- A value that the precondition orders. -/
theorem valuesOf_apply (s : FVec Ideal S2x1x2048x2 .f32) (q : FVec Ideal S8192x2 .f32) (b : Fin 2) (g : Fin 8192) (k : Fin 2048) :
    valuesOf s q (ix3 b g k) = near (fun c => s (ix4 b 0 k c)) fun c => q (ix2 g c) := by
  unfold valuesOf
  clean_types
  pointwise
  rfl

/-- The four greatest values in their order, read off the sort's places. -/
theorem top_apply (V : FVec Ideal S2x8192x2048 .f32) (b : Fin 2) (g : Fin 8192) (r : Fin 4) :
    (Host.topK S2x8192x4 2 (FloatOps.cmpfTotal .gt) V sliceFits_S2x8192x2048_S2x8192x4).1 (ix3 b g r)
      = V (ix3 b g (Sph.pick (fun k => V (ix3 b g k)) ⟨(r : ℕ), by omega⟩)) := by
  have ha : ∀ (k k' : Fin 2048), Shape.Idx.along (s := S2x8192x2048) (ix3 b g k) 2 k' = ix3 b g k' := by
    intro k k'
    funext a
    match a with
    | ⟨0, _⟩ => rfl
    | ⟨1, _⟩ => rfl
    | ⟨2, _⟩ => rfl
  unfold Host.topK Host.sort2
  clean_types
  pointwise
  simp only [ha, Sph.before_eq]
  rfl

/-- Where the four greatest values strictly fall, the values at the sort's first four places do. -/
theorem falls (V : FVec Ideal S2x8192x2048 .f32)
    (h : ∀ (b : Fin 2) (g : Fin 8192) (r : Fin 3),
      (Host.topK S2x8192x4 2 (FloatOps.cmpfTotal .gt) V sliceFits_S2x8192x2048_S2x8192x4).1 (ix3 b g ⟨(r : ℕ) + 1, by omega⟩)
        < (Host.topK S2x8192x4 2 (FloatOps.cmpfTotal .gt) V sliceFits_S2x8192x2048_S2x8192x4).1 (ix3 b g ⟨(r : ℕ), by omega⟩))
    (b : Fin 2) (g : Fin 8192) (r : Fin 3) :
    V (ix3 b g (Sph.pick (fun k => V (ix3 b g k)) ⟨(r : ℕ) + 1, by omega⟩))
      < V (ix3 b g (Sph.pick (fun k => V (ix3 b g k)) ⟨(r : ℕ), by omega⟩)) := by
  have h6 := h b g r
  rw [top_apply, top_apply] at h6
  exact h6

/-- The first part of the precondition: every coordinate finite, and what the last part says of the sorted values. -/
theorem part1 (x : FVec Ideal S2x2048x3 .f32) (s : FVec Ideal S2x1x2048x2 .f32) (u w : IVec S8192x1 32)
    (h : fn_part1 (F := Ideal) x s u w = fun _ => 1#1) :
    (∀ (b : Fin 2) (k : Fin 2048) (r : Fin 3), FloatOps.absf (F := Ideal) (φ := .f32) (x (ix3 b k r)) < (⊤ : EReal))
      ∧ (∀ (b : Fin 2) (k : Fin 2048), 0 < ∑ r : Fin 3, x (ix3 b k r) * x (ix3 b k r))
      ∧ ∀ (b : Fin 2) (g : Fin 8192) (r : Fin 3),
        valuesOf s (gridOf u w) (ix3 b g (Sph.pick (fun k => valuesOf s (gridOf u w) (ix3 b g k)) ⟨(r : ℕ) + 1, by omega⟩))
          < valuesOf s (gridOf u w) (ix3 b g (Sph.pick (fun k => valuesOf s (gridOf u w) (ix3 b g k)) ⟨(r : ℕ), by omega⟩)) := by
  obtain ⟨h1, h2, h3⟩ := part2 x
    (Host.topK S2x8192x4 2 (FloatOps.cmpfTotal .gt) (valuesOf s (gridOf u w)) sliceFits_S2x8192x2048_S2x8192x4).1 _ h
  refine ⟨fun b k r => ?_, h2, fun b g r => ?_⟩
  · have h5 := (lt_iff _ _).1 (Host.reduce_andi_all _ _ _ _ _ h1 (ix3 b k r))
    have e6 : (broadcastInDim S2x2048x3 ![] bcast_S_S2x2048x3 (constant S_ .f32 0x7F800000#32) : FVec Ideal S2x2048x3 .f32)
        (ix3 b k r) = (⊤ : EReal) := by
      clean_types
      pointwise
      simp [Ideal.ofBits, Ideal.ieee]
    exact lt_of_lt_of_eq h5 e6
  · exact falls _ h3 b g r

/-- The points' distances from the origin. -/
theorem norm_apply (x : FVec Ideal S2x2048x3 .f32) (b : Fin 2) (k : Fin 2048) (z : Fin 1) :
    (fn_norm (F := Ideal) x) (ix3 b k z) = Sph.rhoR fun r => x (ix3 b k r) := by
  unfold fn_norm
  clean_types
  pointwise
  rfl

/-- The points' two angles, with the axis that the grid fills. -/
def anglesOf (x : FVec Ideal S2x2048x3 .f32) : FVec Ideal S2x1x2048x2 .f32 :=
  broadcastInDim S2x1x2048x2 ![0, 2, 3] bcast_S2x2048x2_S2x1x2048x2_0_2_3
    (concatenate S2x2048x2 2 [
      ⟨S2x2048x1, (Host.atan2 (extractStridedSlice S2x2048x1 ![0, 0, 1] x slices_S2x2048x3_S2x2048x1_0_0_1)
        (extractStridedSlice S2x2048x1 ![0, 0, 0] x slices_S2x2048x3_S2x2048x1_0_0_0) : FVec Ideal S2x2048x1 .f32)⟩,
      ⟨S2x2048x1, (subf (Host.acos (Host.divf (extractStridedSlice S2x2048x1 ![0, 0, 2] x slices_S2x2048x3_S2x2048x1_0_0_2)
          (fn_norm (F := Ideal) x)))
        (broadcastInDim S2x2048x1 ![] bcast_S_S2x2048x1 (constant S_ .f32 0x40490FDB#32)) : FVec Ideal S2x2048x1 .f32)⟩]
      concatenates_S2x2048x1_S2x2048x1_S2x2048x2_d2)

/-- An angle of a point. -/
theorem anglesOf_apply (x : FVec Ideal S2x2048x3 .f32) (b : Fin 2) (k : Fin 2048) (c : Fin 2) :
    anglesOf x (ix4 b 0 k c) = Sph.angle (fun r => x (ix3 b k r)) c := by
  have h1 := norm_apply x b k
  unfold anglesOf
  clean_types
  generalize fn_norm (F := Ideal) x = N at h1
  pointwise
  simp only [h1]
  unfold Sph.angle
  by_cases h : (c : ℕ) < 1
  · rw [dif_pos h, if_pos h]
    obtain rfl : c = 0 := Fin.ext (by omega)
    rfl
  · rw [dif_neg h, if_neg h]
    obtain rfl : c = 1 := Fin.ext (by omega)
    rfl

/-- The grid's column of row numbers. -/
def rowsOf : IVec S8192x1 32 :=
  broadcastInDim S8192x1 ![0] bcast_S8192_S8192x1_0
    (shapeCast S8192 (broadcastInDim S64x128 ![0] bcast_S64_S64x128_0 (iotaInDim S64 32 0)) shapeCasts_S64x128_S8192)
/-- The grid's column of shifted column numbers. -/
def colsOf : IVec S8192x1 32 :=
  broadcastInDim S8192x1 ![0] bcast_S8192_S8192x1_0
    (shapeCast S8192 (broadcastInDim S64x128 ![1] bcast_S128_S64x128_1
      (addi (broadcastInDim S128 ![] bcast_S_S128 (constantI S_ 32 4294967232#32)) (iotaInDim S128 32 0))) shapeCasts_S64x128_S8192)

/-- The precondition's grid is the reference's. -/
theorem gridOf_apply (g : Fin 8192) (r : Fin 2) : gridOf rowsOf colsOf (ix2 g r) = Sph.gridPt g r := by
  have hr := Sph.word_row ⟨(g : ℕ) / 128, by omega⟩
  have hc := Sph.word_col ⟨(g : ℕ) % 128, by omega⟩
  have es : ∀ w : BitVec 32, (FloatOps.sitofp FTy.f32 w : Ideal FTy.f32) = (((w.toInt : ℤ) : ℝ) : EReal) := fun _ => rfl
  unfold gridOf rowsOf colsOf
  clean_types
  pointwise
  unfold Sph.gridPt
  simp only [es]
  by_cases h : (r : ℕ) < 1
  · rw [dif_pos h, if_pos h, hr]; rfl
  · rw [dif_neg h, if_neg h, hc]; rfl

/-- What the precondition says: every coordinate finite, no point at the origin, and at every grid point the four nearest
    points at strictly growing distances. -/
theorem read (x : FVec Ideal S2x2048x3 .f32) (y : FVec Ideal S2x50x50 .f32) (h : fn (F := Ideal) x y = fun _ => 1#1) :
    (∀ (b : Fin 2) (k : Fin 2048) (r : Fin 3), FloatOps.absf (F := Ideal) (φ := .f32) (x (ix3 b k r)) < (⊤ : EReal))
      ∧ (∀ (b : Fin 2) (k : Fin 2048), 0 < ∑ r : Fin 3, x (ix3 b k r) * x (ix3 b k r))
      ∧ ∀ (b : Fin 2) (g : Fin 8192) (r : Fin 3),
        let v := fun k => near (Sph.angle fun r => x (ix3 b k r)) (Sph.gridPt g)
        v (Sph.pick v ⟨(r : ℕ) + 1, by omega⟩) < v (Sph.pick v ⟨(r : ℕ), by omega⟩) := by
  obtain ⟨h1, h2, h3⟩ := part1 x (anglesOf x) rowsOf colsOf h
  refine ⟨h1, h2, fun b g r => ?_⟩
  have e (k : Fin 2048) : valuesOf (anglesOf x) (gridOf rowsOf colsOf) (ix3 b g k)
      = near (Sph.angle fun r => x (ix3 b k r)) (Sph.gridPt g) := by
    rw [valuesOf_apply]
    congr 1
    · funext c
      exact anglesOf_apply x b k c
    · funext c
      exact gridOf_apply g c
  have h4 := h3 b g r
  simp only [e] at h4
  exact h4

end Cert.Pre_separated.Result
end
-- ==== Proof.Spherical.lean ====
/- The two programs' angles, distances and grid agree at finite points away from the origin, and are real numbers. -/
module

public import proofs.«01_k».proof.Proof.Model
public import Mathlib.Analysis.SpecialFunctions.Trigonometric.Arctan
public import Mathlib.Analysis.SpecialFunctions.Trigonometric.Inverse

@[expose] public section

noncomputable section

namespace Cert.Sph

open Idealize.ShloMosaic

/-- The programs' pi is a real number. -/
theorem piF_real : ∃ p : ℝ, piF = (p : EReal) := by
  unfold piF
  simp [Ideal.ofBits, Ideal.ieee]
  exact ⟨_, (EReal.coe_mul _ _).symm⟩

/-- The pattern of 64. -/
theorem bits64 : Ideal.ofBits FTy.f32 1115684864#32 = ((64 : ℝ) : EReal) := by
  simp [Ideal.ofBits, Ideal.ieee]
  rw [← EReal.coe_mul]
  norm_num
/-- The pattern of 1/64. -/
theorem bits64inv : Ideal.ofBits FTy.f32 1015021568#32 = ((1 / 64 : ℝ) : EReal) := by
  simp [Ideal.ofBits, Ideal.ieee]
  rw [← EReal.coe_mul]
  norm_num
/-- The pattern of 2. -/
theorem bits2 : Ideal.ofBits FTy.f32 1073741824#32 = ((2 : ℝ) : EReal) := by
  simp [Ideal.ofBits, Ideal.ieee]
  rw [← EReal.coe_mul]
  norm_num
/-- The pattern of 1/2. -/
theorem bitsHalf : Ideal.ofBits FTy.f32 1056964608#32 = ((1 / 2 : ℝ) : EReal) := by
  simp [Ideal.ofBits, Ideal.ieee]
  rw [← EReal.coe_mul]
  norm_num

/-- The arc cosine is the angle of the point with that cosine on the upper half of the unit circle. -/
theorem arccos_quadrant (u : ℝ) (h1 : -1 ≤ u) (h2 : u ≤ 1) :
    Real.arccos u = (if 0 < u then Real.arctan (Real.sqrt (1 - u * u) / u)
      else if u < 0 then (if 0 ≤ Real.sqrt (1 - u * u) then Real.arctan (Real.sqrt (1 - u * u) / u) + Real.pi
        else Real.arctan (Real.sqrt (1 - u * u) / u) - Real.pi)
      else if 0 < Real.sqrt (1 - u * u) then Real.pi / 2
        else if Real.sqrt (1 - u * u) < 0 then -(Real.pi / 2) else 0) := by
  rcases lt_trichotomy u 0 with h | h | h
  · rw [if_neg (not_lt.2 h.le), if_pos h, if_pos (Real.sqrt_nonneg _)]
    have e := Real.arccos_eq_arctan (x := -u) (by linarith)
    rw [Real.arccos_neg] at e
    have e2 : Real.sqrt (1 - (-u) ^ 2) / -u = -(Real.sqrt (1 - u * u) / u) := by
      rw [div_neg]
      congr 3
      ring
    rw [e2, Real.arctan_neg] at e
    linarith
  · subst h
    rw [if_neg (lt_irrefl _), if_neg (lt_irrefl _), if_pos (by norm_num), Real.arccos_zero]
  · rw [if_pos h, Real.arccos_eq_arctan h]
    congr 4
    ring

/-- The kernel's colatitude from a cosine is the arc cosine. -/
theorem thetaOf_coe (u : ℝ) (h1 : -1 ≤ u) (h2 : u ≤ 1) : thetaOf (u : EReal) = Ideal.acos (u : EReal) - piF := by
  have h3 : 0 ≤ 1 - u * u := by nlinarith
  have e1 : (1 : EReal) - (u : EReal) * (u : EReal) = ((1 - u * u : ℝ) : EReal) := by
    rw [← EReal.coe_mul, ← EReal.coe_one, ← EReal.coe_sub]
  have e2 : max ((1 - u * u : ℝ) : EReal) 0 = ((1 - u * u : ℝ) : EReal) :=
    max_eq_left (by exact_mod_cast h3)
  unfold thetaOf
  rw [e1, e2, Ideal.sqrt_coe, if_neg (not_lt.2 h3), Ideal.acos_coe, if_pos ⟨h1, h2⟩, arccos_quadrant u h1 h2]
  rfl

/-- The angle of a pair of real numbers is a real number. -/
theorem atan2_real (y x : ℝ) : ∃ a : ℝ, Ideal.atan2 (y : EReal) (x : EReal) = (a : EReal) := ⟨_, rfl⟩

/-- At a finite point away from the origin the kernel's and the reference's distance and angles agree and are real
    numbers. -/
theorem angles (a : Fin 3 → ℝ) (h : 0 < ∑ r, a r * a r) :
    ∃ (s : Fin 2 → ℝ) (q : ℝ), (∀ c, angle (fun r => (a r : EReal)) c = (s c : EReal))
      ∧ phi (a 0) (a 1) = (s 0 : EReal) ∧ theta (a 0) (a 1) (a 2) = (s 1 : EReal)
      ∧ rho (a 0) (a 1) (a 2) = (q : EReal) ∧ rhoR (fun r => (a r : EReal)) = (q : EReal) := by
  rw [Fin.sum_univ_three] at h
  set n := a 0 * a 0 + a 1 * a 1 + a 2 * a 2 with hn
  have en : (a 0 : EReal) * a 0 + (a 1 : EReal) * a 1 + (a 2 : EReal) * a 2 = ((n : ℝ) : EReal) := by
    rw [hn]; push_cast; rfl
  have eq1 : rho (a 0) (a 1) (a 2) = ((Real.sqrt n : ℝ) : EReal) := by
    unfold rho
    rw [en, Ideal.sqrt_coe, if_neg (not_lt.2 h.le)]
  have eq2 : rhoR (fun r => (a r : EReal)) = ((Real.sqrt n : ℝ) : EReal) := by
    unfold rhoR
    rw [Fin.sum_univ_three, en, Ideal.sqrt_coe, if_neg (not_lt.2 h.le)]
  have hq : 0 < Real.sqrt n := Real.sqrt_pos.2 h
  have hz : a 2 * a 2 ≤ n := by rw [hn]; nlinarith [mul_self_nonneg (a 0), mul_self_nonneg (a 1)]
  have hz' : |a 2| ≤ Real.sqrt n := by
    rw [← Real.sqrt_mul_self_eq_abs]
    exact Real.sqrt_le_sqrt hz
  obtain ⟨hz1, hz2⟩ := abs_le.1 hz'
  have eu : Ideal.div (a 2 : EReal) ((Real.sqrt n : ℝ) : EReal) = ((a 2 / Real.sqrt n : ℝ) : EReal) := by
    rw [Ideal.div_coe hq.ne', ← EReal.coe_mul, mul_one_div]
  have u1 : -1 ≤ a 2 / Real.sqrt n := by rw [le_div_iff₀ hq]; linarith
  have u2 : a 2 / Real.sqrt n ≤ 1 := by rw [div_le_iff₀ hq]; linarith
  obtain ⟨p, hp⟩ := piF_real
  obtain ⟨f, hf⟩ := atan2_real (a 1) (a 0)
  have et : Ideal.acos ((a 2 / Real.sqrt n : ℝ) : EReal) - piF = ((Real.arccos (a 2 / Real.sqrt n) - p : ℝ) : EReal) := by
    rw [Ideal.acos_coe, if_pos ⟨u1, u2⟩, hp, ← EReal.coe_sub]
  refine ⟨![f, Real.arccos (a 2 / Real.sqrt n) - p], Real.sqrt n, fun c => ?_, hf, ?_, eq1, eq2⟩
  · unfold angle
    match c with
    | ⟨0, _⟩ => exact hf
    | ⟨1, _⟩ => rw [eq2, eu, et]; rfl
  · unfold theta
    rw [eq1, eu, thetaOf_coe _ u1 u2, et]
    rfl

/-- The two programs' grid coordinates agree and are real numbers. -/
theorem grid (n : ℤ) : ∃ g : ℝ, gridC n = (g : EReal) ∧ gridR n = (g : EReal) := by
  obtain ⟨p, hp⟩ := piF_real
  refine ⟨(n : ℝ) * (1 / 64) * p, ?_, ?_⟩
  · unfold gridC
    rw [bits64inv, hp, ← EReal.coe_mul, ← EReal.coe_mul]
  · unfold gridR
    rw [bits64, Ideal.div_coe (by norm_num), hp, ← EReal.coe_mul, ← EReal.coe_mul]

end Cert.Sph

end
-- ==== Proof.Nearest.lean ====
/- Three rounds of least distance find the three points that a sort of the distances puts ahead. -/
module

public import proofs.«01_k».proof.Proof.Model
public import Idealize.ShloMosaic.Lib.SortFacts

@[expose] public section

noncomputable section

namespace Cert.Sph

open Idealize.ShloMosaic

/-- The least distance is that of the one point nearer than all others. -/
theorem least_eq (d : Fin 2048 → EReal) (i : Fin 2048) (h : ∀ k, k ≠ i → d i < d k) : least d = d i := by
  unfold least
  refine le_antisymm ?_ ?_
  · exact Finset.fold_min_le _ |>.2 (Or.inr ⟨i, Finset.mem_univ _, le_rfl⟩)
  · refine Finset.le_fold_min _ |>.2 ⟨le_top, fun k _ => ?_⟩
    by_cases hk : k = i
    · rw [hk]
    · exact (h k hk).le

/-- The sum over the points at that distance is the one point's value. -/
theorem sumAt_eq (d r : Fin 2048 → EReal) (i : Fin 2048) (h : ∀ k, k ≠ i → d i < d k) : sumAt d r (d i) = r i := by
  unfold sumAt
  rw [Finset.sum_eq_single i (fun k _ hk => if_neg (h k hk).ne') (fun hi => absurd (Finset.mem_univ i) hi), if_pos rfl]

/-- A dropped point is infinitely far, the others stay. -/
theorem drop_eq (d : Fin 2048 → EReal) (i : Fin 2048) (h : ∀ k, k ≠ i → d i < d k) (k : Fin 2048) :
    drop d (d i) k = if k = i then ⊤ else d k := by
  unfold drop
  by_cases hk : k = i
  · rw [if_pos hk, if_pos (by rw [hk])]
  · rw [if_neg hk, if_neg (h k hk).ne']

/-- The kernel's interpolated value, where three points are one after the other nearer than all that remain. -/
theorem interp_eq (d r : Fin 2048 → EReal) (i j l : Fin 2048) (hd : ∀ k, d k < ⊤)
    (hi : ∀ k, k ≠ i → d i < d k) (hj : ∀ k, k ≠ i → k ≠ j → d j < d k) (hl : ∀ k, k ≠ i → k ≠ j → k ≠ l → d l < d k)
    (hji : j ≠ i) (hli : l ≠ i) (hlj : l ≠ j) :
    interp d r = Ideal.div (r i * Ideal.sqrt (d i) + r j * Ideal.sqrt (d j) + r l * Ideal.sqrt (d l))
      (Ideal.sqrt (d i) + Ideal.sqrt (d j) + Ideal.sqrt (d l)) := by
  have e1 := least_eq d i hi
  have e2 := drop_eq d i hi
  have hj' : ∀ k, k ≠ j → drop d (d i) j < drop d (d i) k := by
    intro k hk
    rw [e2, e2, if_neg hji]
    split
    · exact hd j
    · rename_i h; exact hj k h hk
  have e3 := least_eq _ j hj'
  have e4 := drop_eq _ j hj'
  have e5 : drop d (d i) j = d j := by rw [e2, if_neg hji]
  have e6 : drop (drop d (d i)) (drop d (d i) j) l = d l := by rw [e4, if_neg hlj, e2, if_neg hli]
  have hl' : ∀ k, k ≠ l → drop (drop d (d i)) (drop d (d i) j) l < drop (drop d (d i)) (drop d (d i) j) k := by
    intro k hk
    rw [e6, e4]
    split
    · exact hd l
    · rename_i h
      rw [e2]
      split
      · exact hd l
      · rename_i h'; exact hl k h' h hk
  have e7 := least_eq _ l hl'
  have s1 := sumAt_eq d r i hi
  have s2 := sumAt_eq _ r j hj'
  have s3 := sumAt_eq _ r l hl'
  unfold interp
  dsimp only
  rw [e1, e3, e7, s1, s2, s3, e6, e5]

/-- The order of a family of scores never rises. -/
theorem pick_le (v : Fin 2048 → EReal) (a b : Fin 2048) (h : a < b) : v (pick v b) ≤ v (pick v a) := by
  have e := sortedFrom_noInversion (fun k k' => decide (v k' < v k)) (fun k k' => decide (v k' < v k))
    (fun a b h => by simp only [decide_eq_true_eq, decide_eq_false_iff_not, not_lt] at *; exact h.le)
    (fun a b h => h)
    (fun a b c h h' => by simp only [decide_eq_false_iff_not, not_lt] at *; exact h.trans h') a b h
  simp only [decide_eq_false_iff_not, not_lt] at e
  exact e

/-- A point that comes strictly ahead of its successor comes strictly ahead of all that follow. -/
theorem pick_lt (v : Fin 2048 → EReal) (a c b : Fin 2048) (hc : (c : ℕ) = (a : ℕ) + 1) (h : v (pick v c) < v (pick v a))
    (hb : a < b) : v (pick v b) < v (pick v a) := by
  by_cases hbc : b = c
  · rw [hbc]; exact h
  · refine lt_of_le_of_lt (pick_le v c b ?_) h
    have h1 : (b : ℕ) ≠ (c : ℕ) := fun e => hbc (Fin.ext e)
    have h2 : (a : ℕ) < (b : ℕ) := hb
    exact Fin.lt_def.2 (by omega)

/-- Where the first four points in the order of nearness are at strictly growing distances, the kernel's interpolated
    value is made of the first three. -/
theorem interp_pick (d r : Fin 2048 → EReal) (hd : ∀ k, d k < ⊤)
    (h : ∀ a : Fin 3, -d (pick (fun k => -d k) ⟨(a : ℕ) + 1, by omega⟩) < -d (pick (fun k => -d k) ⟨(a : ℕ), by omega⟩)) :
    let p := fun a : Fin 3 => pick (fun k => -d k) ⟨(a : ℕ), by omega⟩
    interp d r = Ideal.div (r (p 0) * Ideal.sqrt (d (p 0)) + r (p 1) * Ideal.sqrt (d (p 1)) + r (p 2) * Ideal.sqrt (d (p 2)))
      (Ideal.sqrt (d (p 0)) + Ideal.sqrt (d (p 1)) + Ideal.sqrt (d (p 2))) := by
  intro p
  have inj := sortedFrom_injective fun k k' : Fin 2048 => decide (-d k' < -d k)
  have far (a : Fin 3) (b : Fin 2048) (hb : (a : ℕ) < (b : ℕ)) : d (p a) < d (pick (fun k => -d k) b) :=
    EReal.neg_lt_neg_iff.1 (pick_lt (fun k => -d k) ⟨(a : ℕ), by omega⟩ ⟨(a : ℕ) + 1, by omega⟩ b rfl (h a) hb)
  have ne (a b : Fin 3) (hab : a ≠ b) : p a ≠ p b := fun e => hab (by
    have h1 := inj e
    exact Fin.ext (Fin.mk.inj h1))
  have rest (k : Fin 2048) : ∃ b : Fin 2048, pick (fun k => -d k) b = k := sortedFrom_surjective _ k
  have differs (a : Fin 3) (b : Fin 2048) (hb : pick (fun k => -d k) b ≠ p a) : (b : ℕ) ≠ (a : ℕ) := fun e =>
    hb (congrArg (pick fun k => -d k) (Fin.ext e))
  refine interp_eq d r (p 0) (p 1) (p 2) hd ?_ ?_ ?_ (ne _ _ (by decide)) (ne _ _ (by decide)) (ne _ _ (by decide))
  · intro k h0
    obtain ⟨b, rfl⟩ := rest k
    have g0 := differs 0 b h0
    exact far 0 b (Nat.pos_of_ne_zero g0)
  · intro k h0 h1
    obtain ⟨b, rfl⟩ := rest k
    have g0 : (b : ℕ) ≠ 0 := differs 0 b h0
    have g1 : (b : ℕ) ≠ 1 := differs 1 b h1
    exact far 1 b (show 1 < (b : ℕ) by omega)
  · intro k h0 h1 h2
    obtain ⟨b, rfl⟩ := rest k
    have g0 : (b : ℕ) ≠ 0 := differs 0 b h0
    have g1 : (b : ℕ) ≠ 1 := differs 1 b h1
    have g2 : (b : ℕ) ≠ 2 := differs 2 b h2
    exact far 2 b (show 2 < (b : ℕ) by omega)

end Cert.Sph

end
-- ==== Proof.Equal.lean ====
/- The kernel's result is the reference's wherever the precondition holds. -/
module

public import proofs.«01_k».proof.Proof.Pre
public import proofs.«01_k».proof.Proof.Spherical
public import proofs.«01_k».proof.Proof.Nearest

@[expose] public section

noncomputable section

namespace Cert.Sph

open Idealize.ShloMosaic
open Cert.Pre_separated.Result (near)

/-- An extended real of finite size is a real number. -/
theorem real_of_abs (x : EReal) (h : FloatOps.absf (F := Ideal) (φ := .f32) x < (⊤ : EReal)) : ∃ a : ℝ, x = (a : EReal) := by
  induction x with
  | bot => exact absurd h (by simp [FloatOps.absf])
  | coe a => exact ⟨a, rfl⟩
  | top => exact absurd h (by simp [FloatOps.absf])

/-- The squared distance of two points of the plane, on real numbers. -/
def sq (s p : Fin 2 → ℝ) : ℝ := (s 0 - p 0) * (s 0 - p 0) + (s 1 - p 1) * (s 1 - p 1)

/-- A squared distance is no less than zero. -/
theorem sq_nonneg' (s p : Fin 2 → ℝ) : 0 ≤ sq s p := add_nonneg (mul_self_nonneg _) (mul_self_nonneg _)

/-- The summed squared differences of real coordinates. -/
theorem sum_sq (s p : Fin 2 → ℝ) :
    ∑ c, ((s c : EReal) - (p c : EReal)) * ((s c : EReal) - (p c : EReal)) = ((sq s p : ℝ) : EReal) := by
  rw [Fin.sum_univ_two]
  unfold sq
  push_cast
  rfl

/-- The reference's score, multiplied out, is minus the squared distance. -/
theorem score_real (s p : Fin 2 → ℝ) :
    score (fun c => (s c : EReal)) (fun c => (p c : EReal)) = -((sq s p : ℝ) : EReal) := by
  unfold score
  rw [bits2, Fin.sum_univ_two, Fin.sum_univ_two, Fin.sum_univ_two]
  have e : sq s p = p 0 * p 0 + p 1 * p 1 + (s 0 * s 0 + s 1 * s 1) - 2 * (s 0 * p 0 + s 1 * p 1) := by
    unfold sq; ring
  rw [e]
  push_cast
  rfl

/-- The plain distance on real coordinates. -/
theorem dist2_real (s p : Fin 2 → ℝ) :
    dist2 (fun c => (s c : EReal)) (fun c => (p c : EReal)) = ((Real.sqrt (sq s p) : ℝ) : EReal) := by
  unfold dist2
  rw [sum_sq, Ideal.sqrt_coe, if_neg (not_lt.2 (sq_nonneg' s p))]

/-- Weighing with shares of the weights is dividing the weighted sum by the sum of the weights. -/
theorem shares (r0 r1 r2 w0 w1 w2 : ℝ) (h : 0 < w0 + w1 + w2) :
    (r0 : EReal) * Ideal.div (w0 : EReal) ((w0 : EReal) + (w1 : EReal) + (w2 : EReal))
      + (r1 : EReal) * Ideal.div (w1 : EReal) ((w0 : EReal) + (w1 : EReal) + (w2 : EReal))
      + (r2 : EReal) * Ideal.div (w2 : EReal) ((w0 : EReal) + (w1 : EReal) + (w2 : EReal))
    = Ideal.div ((r0 : EReal) * (w0 : EReal) + (r1 : EReal) * (w1 : EReal) + (r2 : EReal) * (w2 : EReal))
      ((w0 : EReal) + (w1 : EReal) + (w2 : EReal)) := by
  have e : (w0 : EReal) + (w1 : EReal) + (w2 : EReal) = ((w0 + w1 + w2 : ℝ) : EReal) := by push_cast; rfl
  rw [e, Ideal.div_coe h.ne', Ideal.div_coe h.ne', Ideal.div_coe h.ne', Ideal.div_coe h.ne']
  rw [← EReal.coe_mul, ← EReal.coe_mul, ← EReal.coe_mul, ← EReal.coe_mul, ← EReal.coe_mul, ← EReal.coe_mul, ← EReal.coe_mul,
    ← EReal.coe_mul, ← EReal.coe_mul, ← EReal.coe_add, ← EReal.coe_add, ← EReal.coe_add, ← EReal.coe_add, ← EReal.coe_mul]
  congr 1
  ring

/-- The two programs' interpolated grids agree where the precondition holds of a batch's points. -/
theorem grids (x : Fin 2048 → Fin 3 → EReal)
    (hfin : ∀ k r, FloatOps.absf (F := Ideal) (φ := .f32) (x k r) < (⊤ : EReal))
    (hpos : ∀ k, 0 < ∑ r, x k r * x k r)
    (hnear : ∀ (g : Fin 8192) (r : Fin 3),
      let v := fun k => near (angle (x k)) (gridPt g)
      v (pick v ⟨(r : ℕ) + 1, by omega⟩) < v (pick v ⟨(r : ℕ), by omega⟩)) : kernelGrid x = refGrid x := by
  funext t j
  choose a ha using fun k r => real_of_abs (x k r) (hfin k r)
  obtain rfl : x = fun k r => (a k r : EReal) := by funext k r; exact ha k r
  have hpos' (k : Fin 2048) : 0 < ∑ r, a k r * a k r := by
    have h := hpos k
    rw [Fin.sum_univ_three] at h ⊢
    dsimp only at h
    exact_mod_cast h
  choose s q h1 h2 h3 h4 h5 using fun k => angles (a k) (hpos' k)
  obtain ⟨p0, g0, g0'⟩ := grid (t : ℕ)
  obtain ⟨p1, g1, g1'⟩ := grid (((j : ℕ) : ℤ) - 64)
  have hg (c : Fin 2) : gridPt ⟨(t : ℕ) * 128 + (j : ℕ), by omega⟩ c = ((![p0, p1] c : ℝ) : EReal) := by
    have d1 : ((t : ℕ) * 128 + (j : ℕ)) / 128 = (t : ℕ) := by omega
    have d2 : ((t : ℕ) * 128 + (j : ℕ)) % 128 = (j : ℕ) := by omega
    unfold gridPt
    match c with
    | ⟨0, _⟩ => dsimp only; rw [d1]; exact g0'
    | ⟨1, _⟩ => dsimp only; rw [d2]; exact g1'
  have ea (k : Fin 2048) : angle (fun r => (a k r : EReal)) = fun c => (s k c : EReal) := funext (h1 k)
  have eg : gridPt ⟨(t : ℕ) * 128 + (j : ℕ), by omega⟩ = fun c => ((![p0, p1] c : ℝ) : EReal) := funext hg
  have ek (k : Fin 2048) : distK (phi (a k 0) (a k 1)) (theta (a k 0) (a k 1) (a k 2)) (t : ℕ) (((j : ℕ) : ℤ) - 64)
      = ((sq (s k) ![p0, p1] : ℝ) : EReal) := by
    rw [h2, h3]
    unfold distK sq
    rw [g0, g1]
    push_cast
    rfl
  have en (k : Fin 2048) : near (angle fun r => (a k r : EReal)) (gridPt ⟨(t : ℕ) * 128 + (j : ℕ), by omega⟩)
      = -((sq (s k) ![p0, p1] : ℝ) : EReal) := by
    rw [ea, eg]
    unfold near
    rw [sum_sq]
  have es (k : Fin 2048) : score (angle fun r => (a k r : EReal)) (gridPt ⟨(t : ℕ) * 128 + (j : ℕ), by omega⟩)
      = -((sq (s k) ![p0, p1] : ℝ) : EReal) := by
    rw [ea, eg, score_real]
  have e2 (k : Fin 2048) : dist2 (angle fun r => (a k r : EReal)) (gridPt ⟨(t : ℕ) * 128 + (j : ℕ), by omega⟩)
      = ((Real.sqrt (sq (s k) ![p0, p1]) : ℝ) : EReal) := by
    rw [ea, eg, dist2_real]
  have hn := hnear ⟨(t : ℕ) * 128 + (j : ℕ), by omega⟩
  simp only [en] at hn
  have hi := interp_pick (fun k => ((sq (s k) ![p0, p1] : ℝ) : EReal)) (fun k => (q k : EReal)) (fun k => EReal.coe_lt_top _) hn
  unfold kernelGrid refGrid refInterp blend
  simp only [ek, h4, h5, es, e2]
  rw [hi, Fin.sum_univ_three, Fin.sum_univ_three]
  have hs (k : Fin 2048) : Ideal.sqrt ((sq (s k) ![p0, p1] : ℝ) : EReal) = ((Real.sqrt (sq (s k) ![p0, p1]) : ℝ) : EReal) := by
    rw [Ideal.sqrt_coe, if_neg (not_lt.2 (sq_nonneg' _ _))]
  simp only [hs]
  refine (shares _ _ _ _ _ _ ?_).symm
  refine add_pos_of_pos_of_nonneg (add_pos_of_nonneg_of_pos (Real.sqrt_nonneg _) (Real.sqrt_pos.2 ?_)) (Real.sqrt_nonneg _)
  have h01 := EReal.neg_lt_neg_iff.1 (hn 0)
  exact lt_of_le_of_lt (sq_nonneg' _ _) (EReal.coe_lt_coe_iff.1 h01)

/-- The two programs' transforms are the same sum of products. -/
theorem coeff_eq (cs : Fin 50 → Fin 128 → EReal) (w : Fin 50 → Fin 50 → Fin 64 → EReal) (x : Fin 64 → Fin 128 → EReal) :
    coeff cs w x = coeffR cs w x := by
  funext l m
  unfold coeff coeffR
  refine Finset.sum_congr rfl fun t _ => ?_
  rw [mul_comm]
  congr 1
  exact Finset.sum_congr rfl fun j _ => mul_comm _ _

/-- The kernel's result is the reference's where the precondition holds. -/
theorem loss_eq (cs : Fin 50 → Fin 128 → EReal) (w : Fin 50 → Fin 50 → Fin 64 → EReal) (rect : Fin 50 → EReal)
    (x : Fin 2 → Fin 2048 → Fin 3 → EReal) (tgt : Fin 2 → Fin 50 → Fin 50 → EReal)
    (hfin : ∀ b k r, FloatOps.absf (F := Ideal) (φ := .f32) (x b k r) < (⊤ : EReal))
    (hpos : ∀ b k, 0 < ∑ r, x b k r * x b k r)
    (hnear : ∀ (b : Fin 2) (g : Fin 8192) (r : Fin 3),
      let v := fun k => near (angle (x b k)) (gridPt g)
      v (pick v ⟨(r : ℕ) + 1, by omega⟩) < v (pick v ⟨(r : ℕ), by omega⟩)) :
    kernelLoss cs w rect x tgt = refLoss cs w rect x tgt := by
  unfold kernelLoss refLoss
  rw [Fin.sum_univ_two, bits2, Ideal.div_coe (by norm_num), bitsHalf,
    grids (x 0) (hfin 0) (hpos 0) (hnear 0), grids (x 1) (hfin 1) (hpos 1) (hnear 1), coeff_eq, coeff_eq]

end Cert.Sph

end
-- ==== Proof.Claims.lean ====
/- The claims: the runs of both programs end with equal results where the precondition holds. -/
module

public import proofs.«01_k».proof.Defs
public import proofs.«01_k».proof.Proof.KernelValue
public import proofs.«01_k».proof.Proof.RefValue
public import proofs.«01_k».proof.Proof.Legendre
public import proofs.«01_k».proof.Proof.Equal
public import proofs.«01_k».proof.Proof.Gen.Kernel.Frame
public import proofs.«01_k».proof.Proof.Gen.KernelIdeal.Frame
public import Idealize.ShloMosaic.Lib.Quiescent

@[expose] public section

noncomputable section

namespace Cert.Claims

open Idealize.ShloMosaic Idealize.SL.Sem Idealize.ShloMosaic.StableHlo

/-- The two programs read the same cosines. -/
theorem cos_eq : Cert.KernelIdeal.Result.tabCos = Cert.ReferenceIdeal.Result.tabCos := by
  funext m j
  unfold Cert.KernelIdeal.Result.tabCos Cert.ReferenceIdeal.Result.tabCos
  rw [Cert.Tables.lit0_eq]

/-- A degree's place among the weights, as a column and as a row. -/
theorem place : ∀ l : Fin 50, (Cert.KernelIdeal.S50x1.rowMajor (ix2 l 0)).val = (Cert.ReferenceIdeal.S50.rowMajor (ix1 l)).val := by
  decide +kernel

/-- The two programs read the same weights of the degrees. -/
theorem rect_eq : Cert.KernelIdeal.Result.tabRect = Cert.ReferenceIdeal.Result.tabRect := by
  funext l
  unfold Cert.KernelIdeal.Result.tabRect Cert.ReferenceIdeal.Result.tabRect
  rw [Cert.Tables.weights_eq]
  exact congrArg (fun i => Ideal.ofBits .f32 (Cert.ReferenceIdeal.lit3 i)) (Fin.ext (place l))

/-- The kernel as compiled runs, leaves its arguments as they were and every semaphore at zero. -/
theorem frame_kernel : Cert.quiescent_Kernel := fun m ρ _ => Cert.Kernel.Gen.frame m ρ
/-- So does its idealization. -/
theorem frame_ideal : Cert.quiescent_KernelIdeal := fun m ρ _ => Cert.KernelIdeal.Gen.frame m ρ
/-- So it does under the precondition. -/
theorem frame_ideal_pre : Cert.quiescent_KernelIdeal_pre_separated := fun m ρ _ => Cert.KernelIdeal.Gen.frame m ρ
/-- So does the reference; it declares no semaphore. -/
theorem frame_ref : Cert.quiescent_ReferenceIdeal := fun m ρ _ =>
  (θ_run Cert.ReferenceIdeal.defs _ _).mono (fun r h => ⟨fun c => ⟨(h c).2.1, (h c).2.2⟩,
      Idealize.ShloMosaic.sem_eq_zero_of_no_sems (by decide) r.2⟩)
    (Cert.ReferenceIdeal.Value.run (F := Ideal) m ρ)
/-- So it does under the precondition. -/
theorem frame_ref_pre : Cert.quiescent_ReferenceIdeal_pre_separated := fun m ρ _ => frame_ref m ρ trivial

/-- The ideal pass rewrote nothing. -/
theorem preserves : Cert.preserves_Kernel_KernelIdeal := trivial

/-- The kernel and the reference end with equal results, their arguments as they were. -/
theorem algebraic : Cert.algebraic_KernelIdeal_ReferenceIdeal_pre_separated := by
  intro m ρ m' ρ' hpre hagree
  refine ⟨fun c => Cert.KernelIdeal.Gen.W7 m ρ c (Proc.devRef .tc Cert.KernelIdeal.main_v6), ?_, ?_⟩
  · exact Cert.KernelIdeal.Result.run m ρ
  · refine (θ_run Cert.ReferenceIdeal.defs _ _).mono (fun r h c => ⟨(h c).1.trans ?_, (h c).2⟩)
      (Cert.ReferenceIdeal.Value.run (F := Ideal) m' ρ')
    obtain ⟨h1, h2, h3⟩ := Cert.Pre_separated.Result.read _ _ (hpre c)
    obtain ⟨a0, a1⟩ := hagree c
    have e0 : Cert.ReferenceIdeal.Result.pts (launchContents m' c)
        = fun b k r => (m ((c.tc : Thread Cert.KernelIdeal.nD Cert.KernelIdeal.τ).loc Cert.KernelIdeal.main_arg0)) (ix3 b k r) := by
      funext b k r
      exact congrFun a0 (ix3 b k r)
    have e1 : Cert.ReferenceIdeal.Result.tgts (launchContents m' c)
        = fun b l o => (m ((c.tc : Thread Cert.KernelIdeal.nD Cert.KernelIdeal.τ).loc Cert.KernelIdeal.main_arg1)) (ix3 b l o) := by
      funext b l o
      exact congrFun a1 (ix3 b l o)
    refine (Cert.ReferenceIdeal.Result.value (launchContents m' c)).trans ?_
    refine Eq.trans ?_ (Cert.KernelIdeal.Result.value m ρ c).symm
    rw [e0, e1, cos_eq, Cert.Tables.leg_eq, rect_eq]
    funext i
    exact (Cert.Sph.loss_eq _ _ _ _ _ h1 h2 h3).symm

end Cert.Claims

end
-- ==== Proof.lean ====
/- The certificate's claims, put together. -/
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_separated
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_separated.Gen.facts,
    Cert.Claims.frame_kernel, Cert.Claims.frame_ideal, Cert.Claims.frame_ideal_pre, Cert.Claims.frame_ref,
    Cert.Claims.frame_ref_pre, Cert.Claims.preserves, Cert.Claims.algebraic⟩

end Cert.Proof

end
